-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S1x1 : Shape := ⟨2, ![1, 1]⟩
abbrev S256x64 : Shape := ⟨2, ![256, 64]⟩
abbrev S256x1 : Shape := ⟨2, ![256, 1]⟩
abbrev S256x8192 : Shape := ⟨2, ![256, 8192]⟩
abbrev S1x256x64 : Shape := ⟨3, ![1, 256, 64]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 32
  | .vmem => 12
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S_, .f32⟩
  | .hbm, ⟨21, _⟩ => ⟨S_, .i32⟩
  | .hbm, ⟨22, _⟩ => ⟨S8192, .f32⟩
  | .hbm, ⟨23, _⟩ => ⟨S8192, .i32⟩
  | .hbm, ⟨24, _⟩ => ⟨S8192x1, .i32⟩
  | .hbm, ⟨25, _⟩ => ⟨S8192x8192, .f32⟩
  | .hbm, ⟨26, _⟩ => ⟨S8192x64, .f32⟩
  | .hbm, ⟨27, _⟩ => ⟨S1x8192, .f32⟩
  | .hbm, ⟨28, _⟩ => ⟨S1x1, .f32⟩
  | .hbm, ⟨29, _⟩ => ⟨S1x1, .f32⟩
  | .hbm, ⟨30, _⟩ => ⟨S_, .f32⟩
  | .hbm, ⟨31, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S256x1, .i32⟩
  | .local _ .vmem, ⟨4, _⟩ => ⟨S256x1, .i32⟩
  | .local _ .vmem, ⟨5, _⟩ => ⟨S256x8192, .f32⟩
  | .local _ .vmem, ⟨6, _⟩ => ⟨S256x8192, .f32⟩
  | .local _ .vmem, ⟨7, _⟩ => ⟨S256x64, .f32⟩
  | .local _ .vmem, ⟨8, _⟩ => ⟨S256x64, .f32⟩
  | .local _ .vmem, ⟨9, _⟩ => ⟨S1x8192, .f32⟩
  | .local _ .vmem, ⟨10, _⟩ => ⟨S1x1, .f32⟩
  | .local _ .vmem, ⟨11, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_cst_1 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_call0_v0 : Ref sig .tc := ⟨.hbm, 19, rfl⟩
abbrev main_call0_call0_cst : Ref sig .tc := ⟨.hbm, 20, rfl⟩
abbrev main_call0_call0_c : Ref sig .tc := ⟨.hbm, 21, rfl⟩
abbrev main_call0_call0_v1_0 : Ref sig .tc := ⟨.hbm, 22, rfl⟩
abbrev main_call0_v14 : Ref sig .tc := ⟨.hbm, 23, rfl⟩
abbrev main_call0_v15 : Ref sig .tc := ⟨.hbm, 24, rfl⟩
abbrev main_v0_3 : Ref sig .tc := ⟨.hbm, 25, rfl⟩
abbrev main_v0_1 : Ref sig .tc := ⟨.hbm, 26, rfl⟩
abbrev main_call0_v16_2 : Ref sig .tc := ⟨.hbm, 27, rfl⟩
abbrev main_call0_v16_3 : Ref sig .tc := ⟨.hbm, 28, rfl⟩
abbrev main_call0_v16_4 : Ref sig .tc := ⟨.hbm, 29, rfl⟩
abbrev main_v0_0 : Ref sig .tc := ⟨.hbm, 30, rfl⟩
abbrev main_v0_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v34 : BitVec 1 := Scalar.cmpi .eq arg0 c31_i32
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S8192x2 : Shape := ⟨2, ![8192, 2]⟩

abbrev nBuf : Space → Nat
  | .hbm => 72
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S_, .f32⟩
  | .hbm, ⟨21, _⟩ => ⟨S_, .i32⟩
  | .hbm, ⟨22, _⟩ => ⟨S8192, .f32⟩
  | .hbm, ⟨23, _⟩ => ⟨S8192, .i32⟩
  | .hbm, ⟨24, _⟩ => ⟨S_, .f32⟩
  | .hbm, ⟨25, _⟩ => ⟨S8192x8192, .f32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x1, .i32⟩
  | .hbm, ⟨43, _⟩ => ⟨S8192x2, .i32⟩
  | .hbm, ⟨44, _⟩ => ⟨S_, .f32⟩
  | .hbm, ⟨45, _⟩ => ⟨S8192, .f32⟩
  | .hbm, ⟨46, _⟩ => ⟨S8192x8192, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x64, .f32⟩
  | .hbm, ⟨57, _⟩ => ⟨S8192x64, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.KernelCases.lean ====
/- What ONE grid point leaves in its output blocks, case by case: the first point (A), the points between (B) and the
   last (C). `x0` is the block of 256 rows, `x1` the codebook, `x2` the 256 indices; `xo5` and `xo6` are the counts and the
   loss sum the point before left. -/
module

public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.ShloMosaic.Tactic Idealize.SL.Sem

namespace Cert.KernelIdeal.Value

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg1 : Memref sig .tc .vmem S256x64 .f32) (h1 : arg1.IsWhole)
  (arg2 : Memref sig .tc .vmem S8192x64 .f32) (h2 : arg2.IsWhole)
  (arg3 : Memref sig .tc .vmem S256x1 .i32) (h3 : arg3.IsWhole)
  (arg4 : Memref sig .tc .vmem S256x8192 .f32) (h4 : arg4.IsWhole)
  (arg5 : Memref sig .tc .vmem S256x64 .f32) (h5 : arg5.IsWhole)
  (arg6 : Memref sig .tc .vmem S1x8192 .f32) (h6 : arg6.IsWhole)
  (arg7 : Memref sig .tc .vmem S1x1 .f32) (h7 : arg7.IsWhole)
  (arg8 : Memref sig .tc .vmem S1x1 .f32) (h8 : arg8.IsWhole)
  (x0 : Vec F S256x64 .f32) (x1 : Vec F S8192x64 .f32) (x2 : Vec F S256x1 .i32)
  (xo5 : Vec F S1x8192 .f32) (xo6 : Vec F S1x1 .f32)

/-- The first point leaves the one-hot rows of its indices. -/
theorem out_A_3 (hc0 : cond0_0 i) (hc1 : ¬cond0_1 i) :
    out0_A_3 c i arg1 h1 arg2 h2 arg3 h3 arg4 h4 arg5 h5 arg6 h6 arg7 h7 arg8 h8 hc0 hc1 x0 x1 x2 = k0_pay6 x2 := by
  unfold out0_A_3
  rw [View.read_writes_eq_canon _ _ _ (cover0_A_3 c i arg1 h1 arg2 h2 arg3 h3 arg4 h4 arg5 h5 arg6 h6 arg7 h7 arg8 h8 hc0 hc1 x0 x1 x2)]
  unfold kernelRun0_A; dsimp only
  sl_unfold_words
  simp only [View.canon_unit_zero (S := S256x8192) hz, View.canon_cons_unit_zero (S := S256x8192) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The first point leaves the straight-through rows. -/
theorem out_A_4 (hc0 : cond0_0 i) (hc1 : ¬cond0_1 i) :
    out0_A_4 c i arg1 h1 arg2 h2 arg3 h3 arg4 h4 arg5 h5 arg6 h6 arg7 h7 arg8 h8 hc0 hc1 x0 x1 x2 = k0_pay8 x0 x1 x2 := by
  unfold out0_A_4
  rw [View.read_writes_eq_canon _ _ _ (cover0_A_4 c i arg1 h1 arg2 h2 arg3 h3 arg4 h4 arg5 h5 arg6 h6 arg7 h7 arg8 h8 hc0 hc1 x0 x1 x2)]
  unfold kernelRun0_A; dsimp only
  sl_unfold_words
  simp only [View.canon_unit_zero (S := S256x64) hz, View.canon_cons_unit_zero (S := S256x64) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The first point leaves the counts. -/
theorem out_A_5 (hc0 : cond0_0 i) (hc1 : ¬cond0_1 i) :
    out0_A_5 c i arg1 h1 arg2 h2 arg3 h3 arg4 h4 arg5 h5 arg6 h6 arg7 h7 arg8 h8 hc0 hc1 x0 x1 x2 = k0_pay9 x2 k0_pay3 := by
  unfold out0_A_5
  rw [View.read_writes_eq_canon _ _ _ (cover0_A_5 c i arg1 h1 arg2 h2 arg3 h3 arg4 h4 arg5 h5 arg6 h6 arg7 h7 arg8 h8 hc0 hc1 x0 x1 x2)]
  unfold kernelRun0_A; dsimp only
  sl_unfold_words
  simp only [View.canon_unit_zero (S := S1x8192) hz, View.canon_cons_unit_zero (S := S1x8192) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The first point leaves the loss sum. -/
theorem out_A_6 (hc0 : cond0_0 i) (hc1 : ¬cond0_1 i) :
    out0_A_6 c i arg1 h1 arg2 h2 arg3 h3 arg4 h4 arg5 h5 arg6 h6 arg7 h7 arg8 h8 hc0 hc1 x0 x1 x2 = k0_pay10 x0 x1 x2 k0_pay4 := by
  unfold out0_A_6
  rw [View.read_writes_eq_canon _ _ _ (cover0_A_6 c i arg1 h1 arg2 h2 arg3 h3 arg4 h4 arg5 h5 arg6 h6 arg7 h7 arg8 h8 hc0 hc1 x0 x1 x2)]
  unfold kernelRun0_A; dsimp only
  sl_unfold_words
  simp only [View.canon_unit_zero (S := S1x1) hz, View.canon_cons_unit_zero (S := S1x1) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- A point between leaves the one-hot rows of its indices. -/
theorem out_B_3 (hc0 : ¬cond0_0 i) (hc1 : ¬cond0_1 i) :
    out0_B_3 c i arg1 h1 arg2 h2 arg3 h3 arg4 h4 arg5 h5 arg6 h6 arg7 h7 arg8 h8 hc0 hc1 x0 x1 x2 xo5 xo6 = k0_pay6 x2 := by
  unfold out0_B_3
  rw [View.read_writes_eq_canon _ _ _ (cover0_B_3 c i arg1 h1 arg2 h2 arg3 h3 arg4 h4 arg5 h5 arg6 h6 arg7 h7 arg8 h8 hc0 hc1 x0 x1 x2 xo5 xo6)]
  unfold kernelRun0_B; dsimp only
  sl_unfold_words
  simp only [View.canon_unit_zero (S := S256x8192) hz, View.canon_cons_unit_zero (S := S256x8192) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- A point between leaves the straight-through rows. -/
theorem out_B_4 (hc0 : ¬cond0_0 i) (hc1 : ¬cond0_1 i) :
    out0_B_4 c i arg1 h1 arg2 h2 arg3 h3 arg4 h4 arg5 h5 arg6 h6 arg7 h7 arg8 h8 hc0 hc1 x0 x1 x2 xo5 xo6 = k0_pay8 x0 x1 x2 := by
  unfold out0_B_4
  rw [View.read_writes_eq_canon _ _ _ (cover0_B_4 c i arg1 h1 arg2 h2 arg3 h3 arg4 h4 arg5 h5 arg6 h6 arg7 h7 arg8 h8 hc0 hc1 x0 x1 x2 xo5 xo6)]
  unfold kernelRun0_B; dsimp only
  sl_unfold_words
  simp only [View.canon_unit_zero (S := S256x64) hz, View.canon_cons_unit_zero (S := S256x64) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- A point between leaves the counts. -/
theorem out_B_5 (hc0 : ¬cond0_0 i) (hc1 : ¬cond0_1 i) :
    out0_B_5 c i arg1 h1 arg2 h2 arg3 h3 arg4 h4 arg5 h5 arg6 h6 arg7 h7 arg8 h8 hc0 hc1 x0 x1 x2 xo5 xo6 = k0_pay9 x2 xo5 := by
  unfold out0_B_5
  rw [View.read_writes_eq_canon _ _ _ (cover0_B_5 c i arg1 h1 arg2 h2 arg3 h3 arg4 h4 arg5 h5 arg6 h6 arg7 h7 arg8 h8 hc0 hc1 x0 x1 x2 xo5 xo6)]
  unfold kernelRun0_B; dsimp only
  sl_unfold_words
  simp only [View.canon_unit_zero (S := S1x8192) hz, View.canon_cons_unit_zero (S := S1x8192) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- A point between leaves the loss sum. -/
theorem out_B_6 (hc0 : ¬cond0_0 i) (hc1 : ¬cond0_1 i) :
    out0_B_6 c i arg1 h1 arg2 h2 arg3 h3 arg4 h4 arg5 h5 arg6 h6 arg7 h7 arg8 h8 hc0 hc1 x0 x1 x2 xo5 xo6 = k0_pay10 x0 x1 x2 xo6 := by
  unfold out0_B_6
  rw [View.read_writes_eq_canon _ _ _ (cover0_B_6 c i arg1 h1 arg2 h2 arg3 h3 arg4 h4 arg5 h5 arg6 h6 arg7 h7 arg8 h8 hc0 hc1 x0 x1 x2 xo5 xo6)]
  unfold kernelRun0_B; dsimp only
  sl_unfold_words
  simp only [View.canon_unit_zero (S := S1x1) hz, View.canon_cons_unit_zero (S := S1x1) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The last point leaves the one-hot rows of its indices. -/
theorem out_C_3 (hc0 : ¬cond0_0 i) (hc1 : cond0_1 i) :
    out0_C_3 c i arg1 h1 arg2 h2 arg3 h3 arg4 h4 arg5 h5 arg6 h6 arg7 h7 arg8 h8 hc0 hc1 x0 x1 x2 xo5 xo6 = k0_pay6 x2 := by
  unfold out0_C_3
  rw [View.read_writes_eq_canon _ _ _ (cover0_C_3 c i arg1 h1 arg2 h2 arg3 h3 arg4 h4 arg5 h5 arg6 h6 arg7 h7 arg8 h8 hc0 hc1 x0 x1 x2 xo5 xo6)]
  unfold kernelRun0_C; dsimp only
  sl_unfold_words
  simp only [View.canon_unit_zero (S := S256x8192) hz, View.canon_cons_unit_zero (S := S256x8192) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The last point leaves the straight-through rows. -/
theorem out_C_4 (hc0 : ¬cond0_0 i) (hc1 : cond0_1 i) :
    out0_C_4 c i arg1 h1 arg2 h2 arg3 h3 arg4 h4 arg5 h5 arg6 h6 arg7 h7 arg8 h8 hc0 hc1 x0 x1 x2 xo5 xo6 = k0_pay8 x0 x1 x2 := by
  unfold out0_C_4
  rw [View.read_writes_eq_canon _ _ _ (cover0_C_4 c i arg1 h1 arg2 h2 arg3 h3 arg4 h4 arg5 h5 arg6 h6 arg7 h7 arg8 h8 hc0 hc1 x0 x1 x2 xo5 xo6)]
  unfold kernelRun0_C; dsimp only
  sl_unfold_words
  simp only [View.canon_unit_zero (S := S256x64) hz, View.canon_cons_unit_zero (S := S256x64) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The last point leaves the counts. -/
theorem out_C_5 (hc0 : ¬cond0_0 i) (hc1 : cond0_1 i) :
    out0_C_5 c i arg1 h1 arg2 h2 arg3 h3 arg4 h4 arg5 h5 arg6 h6 arg7 h7 arg8 h8 hc0 hc1 x0 x1 x2 xo5 xo6 = k0_pay9 x2 xo5 := by
  unfold out0_C_5
  rw [View.read_writes_eq_canon _ _ _ (cover0_C_5 c i arg1 h1 arg2 h2 arg3 h3 arg4 h4 arg5 h5 arg6 h6 arg7 h7 arg8 h8 hc0 hc1 x0 x1 x2 xo5 xo6)]
  unfold kernelRun0_C; dsimp only
  sl_unfold_words
  simp only [View.canon_unit_zero (S := S1x8192) hz, View.canon_cons_unit_zero (S := S1x8192) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The last point leaves the loss sum. -/
theorem out_C_6 (hc0 : ¬cond0_0 i) (hc1 : cond0_1 i) :
    out0_C_6 c i arg1 h1 arg2 h2 arg3 h3 arg4 h4 arg5 h5 arg6 h6 arg7 h7 arg8 h8 hc0 hc1 x0 x1 x2 xo5 xo6 = k0_pay1 (k0_pay10 x0 x1 x2 xo6) := by
  unfold out0_C_6
  rw [View.read_writes_eq_canon _ _ _ (cover0_C_6 c i arg1 h1 arg2 h2 arg3 h3 arg4 h4 arg5 h5 arg6 h6 arg7 h7 arg8 h8 hc0 hc1 x0 x1 x2 xo5 xo6)]
  unfold kernelRun0_C; dsimp only
  sl_unfold_words
  simp only [View.canon_unit_zero (S := S1x1) hz, View.canon_cons_unit_zero (S := S1x1) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

/-- The last point leaves the perplexity. -/
theorem out_C_7 (hc0 : ¬cond0_0 i) (hc1 : cond0_1 i) :
    out0_C_7 c i arg1 h1 arg2 h2 arg3 h3 arg4 h4 arg5 h5 arg6 h6 arg7 h7 arg8 h8 hc0 hc1 x0 x1 x2 xo5 xo6 = k0_pay2 (k0_pay9 x2 xo5) := by
  unfold out0_C_7
  rw [View.read_writes_eq_canon _ _ _ (cover0_C_7 c i arg1 h1 arg2 h2 arg3 h3 arg4 h4 arg5 h5 arg6 h6 arg7 h7 arg8 h8 hc0 hc1 x0 x1 x2 xo5 xo6)]
  unfold kernelRun0_C; dsimp only
  sl_unfold_words
  simp only [View.canon_unit_zero (S := S1x1) hz, View.canon_cons_unit_zero (S := S1x1) hz,
    View.readCov_unit_zero (S := S1x8192) _ hz, View.readCov_unit_zero (S := S1x1) _ hz, View.readAt_eq_ld,
    h1.read_unread, h2.read_unread, h3.read_unread, h6.read_unread, h7.read_unread,
    View.ld_unit_zero (S := S256x64) hz, View.ld_unit_zero (S := S8192x64) hz, View.ld_unit_zero (S := S256x1) hz,
    View.ld_unit_zero (S := S1x8192) hz, View.ld_unit_zero (S := S1x1) hz, shapeCast_self]

end Cert.KernelIdeal.Value

end
-- ==== Proof.RefRun.lean ====
/- The REFERENCE program's run: its operations in order, what each result holds at the end as a term over the two
   arguments, and its frame. The terms follow the reference's lines: the squared distances, the index of the least one in
   each row, the one-hot rows written by a scatter, the product with the codebook, the two means and the perplexity. -/
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Idealize.ShloMosaic.StableHlo

variable {F : FTy → Type} [FloatOps F]

/-! ## The terms -/

/-- The squared distances `|x_i|² + |w_j|² − 2 x_i·w_j`. -/
def dist (x W : FVec F S8192x64 .f32) : FVec F S8192x8192 .f32 :=
  subf
    (addf
      (broadcastInDim S8192x8192 ![0, 1] bcast_S8192x1_S8192x8192_0_1 (broadcastInDim S8192x1 ![0] bcast_S8192_S8192x1_0
        (Host.reduceAdd (mulf x x) (constant S_ .f32 0x00000000#32) reducesTo_S8192x64_S8192_d1 h_S_)))
      (broadcastInDim S8192x8192 ![0, 1] bcast_S1x8192_S8192x8192_0_1 (broadcastInDim S1x8192 ![1] bcast_S8192_S1x8192_1
        (Host.reduceAdd (mulf W W) (constant S_ .f32 0x00000000#32) reducesTo_S8192x64_S8192_d1 h_S_))))
    (mulf (broadcastInDim S8192x8192 ![] bcast_S_S8192x8192 (constant S_ .f32 0x40000000#32))
      (Host.dotGeneral dot_S8192x64_S64x8192_S8192x8192_1_0_0_1_n_n none x
        (transpose S64x8192 [1, 0] W transposes_S8192x64_S64x8192_1_0)))

/-- The index of the least entry of each row. -/
def amin (d : FVec F S8192x8192 .f32) : IVec S8192 32 := fun j =>
  (Host.argReduce reducer_argmin_f32_i32 d (iotaInDim S8192x8192 32 1) (constant S_ .f32 0x7F800000#32)
    (constantI S_ 32 0#32) reducesTo_S8192x8192_S8192_d1 h_S_ j).2

/-- An index array with its negative entries raised by 8192, as array indexing reads it. -/
def norm (i : IVec S8192 32) : IVec S8192 32 :=
  select (cmpi .slt i (broadcastInDim S8192 ![] bcast_S_S8192 (constantI S_ 32 0#32)))
    (addi i (broadcastInDim S8192 ![] bcast_S_S8192 (constantI S_ 32 8192#32))) i

/-- The scatter's indices: row `i` names the position `(i, idx i)`. -/
def pairs (idx : IVec S8192 32) : IVec S8192x2 32 :=
  concatenate S8192x2 1
    [⟨S8192x1, broadcastInDim S8192x1 ![0] bcast_S8192_S8192x1_0 (norm (iotaInDim S8192 32 0))⟩,
     ⟨S8192x1, broadcastInDim S8192x1 ![0] bcast_S8192_S8192x1_0 (norm idx)⟩] concatenates_S8192x1_S8192x1_S8192x2_d1

/-- The encodings: ones written into zeros at the positions `pairs` names. -/
def enc (idx : IVec S8192 32) : FVec F S8192x8192 .f32 :=
  Host.scatter scatter_S8192x8192_S8192x2_S8192_n_01_01_1 (fun _ b => b)
    (broadcastInDim S8192x8192 ![] bcast_S_S8192x8192 (constant S_ .f32 0x00000000#32)) (pairs idx)
    (broadcastInDim S8192 ![] bcast_S_S8192 (constant S_ .f32 0x3F800000#32))

/-- The quantized rows: the encodings times the codebook. -/
def quant (e : FVec F S8192x8192 .f32) (W : FVec F S8192x64 .f32) : FVec F S8192x64 .f32 :=
  Host.dotGeneral dot_S8192x8192_S8192x64_S8192x64_1_0_0_1_n_n none e W

/-- The loss: a quarter of the mean squared difference. -/
def loss (q x : FVec F S8192x64 .f32) : FVec F S_ .f32 :=
  mulf (constant S_ .f32 0x3E800000#32)
    (Host.divf (Host.reduceAdd (mulf (subf q x) (subf q x)) (constant S_ .f32 0x00000000#32) reducesTo_S8192x64_S_d0_1 h_S_)
      (constant S_ .f32 0x49000000#32))

/-- The straight-through output `x + (q − x)`. -/
def through (q x : FVec F S8192x64 .f32) : FVec F S8192x64 .f32 := addf x (subf q x)

/-- The average of the encodings over the rows. -/
def probs (e : FVec F S8192x8192 .f32) : FVec F S8192 .f32 :=
  Host.divf (Host.reduceAdd e (constant S_ .f32 0x00000000#32) reducesTo_S8192x8192_S8192_d0 h_S_)
    (broadcastInDim S8192 ![] bcast_S_S8192 (constant S_ .f32 0x46000000#32))

/-- The perplexity of the averages `p`: `exp (−∑ p log (p + 1e-10))`. -/
def perp (p : FVec F S8192 .f32) : FVec F S_ .f32 :=
  Host.exp (Host.negf (Host.reduceAdd
    (mulf p (Host.log (addf p (broadcastInDim S8192 ![] bcast_S_S8192 (constant S_ .f32 0x2EDBE6FF#32)))))
    (constant S_ .f32 0x00000000#32) reducesTo_S8192_S_d0 h_S_))

/-! ## The run -/

/-- @main's operations up to the argmin: the distances and the index of the least one in each row. -/
abbrev opsD : List (HloOp τ sig (Elt F)) :=
  [ binary main_arg0 main_arg0 main_v0 mulf,
    nullary main_cst (constant S_ .f32 0x00000000#32),
    binary main_v0 main_cst main_v1 (fun x v => Host.reduceAdd x v reducesTo_S8192x64_S8192_d1 h_S_),
    unary main_v1 main_v2 (broadcastInDim S8192x1 ![0] bcast_S8192_S8192x1_0),
    binary main_arg1 main_arg1 main_v3 mulf,
    nullary main_cst_0 (constant S_ .f32 0x00000000#32),
    binary main_v3 main_cst_0 main_v4 (fun x v => Host.reduceAdd x v reducesTo_S8192x64_S8192_d1 h_S_),
    unary main_v4 main_v5 (broadcastInDim S1x8192 ![1] bcast_S8192_S1x8192_1),
    unary main_v2 main_v6 (broadcastInDim S8192x8192 ![0, 1] bcast_S8192x1_S8192x8192_0_1),
    unary main_v5 main_v7 (broadcastInDim S8192x8192 ![0, 1] bcast_S1x8192_S8192x8192_0_1),
    binary main_v6 main_v7 main_v8 addf,
    unary main_arg1 main_v9 (transpose S64x8192 [1, 0] · transposes_S8192x64_S64x8192_1_0),
    binary main_arg0 main_v9 main_v10 (fun l r => Host.dotGeneral dot_S8192x64_S64x8192_S8192x8192_1_0_0_1_n_n none l r),
    nullary main_cst_1 (constant S_ .f32 0x40000000#32),
    unary main_cst_1 main_v11 (broadcastInDim S8192x8192 ![] bcast_S_S8192x8192),
    binary main_v11 main_v10 main_v12 mulf,
    binary main_v8 main_v12 main_v13 subf,
    TRef.nullary main_call0.v0 (iotaInDim S8192x8192 32 1),
    TRef.nullary main_call0.cst (constant S_ .f32 0x7F800000#32),
    TRef.nullary main_call0.c (constantI S_ 32 0#32),
    TRef.quaternary (.of main_v13) main_call0.v0 main_call0.cst main_call0.c main_call0.v1_0
      (fun x y u v j => (Host.argReduce reducer_argmin_f32_i32 x y u v reducesTo_S8192x8192_S8192_d1 h_S_ j).1),
    TRef.quaternary (.of main_v13) main_call0.v0 main_call0.cst main_call0.c main_call0.v1_1
      (fun x y u v j => (Host.argReduce reducer_argmin_f32_i32 x y u v reducesTo_S8192x8192_S8192_d1 h_S_ j).2) ]

/-- The operations that write the encodings. -/
abbrev opsE : List (HloOp τ sig (Elt F)) :=
  [ nullary main_cst_2 (constant S_ .f32 0x00000000#32),
    unary main_cst_2 main_v15 (broadcastInDim S8192x8192 ![] bcast_S_S8192x8192),
    nullary main_v16 (iotaInDim S8192 32 0),
    nullary main_c (constantI S_ 32 0#32),
    unary main_c main_v17 (broadcastInDim S8192 ![] bcast_S_S8192),
    binary main_v16 main_v17 main_v18 (cmpi .slt),
    nullary main_c_3 (constantI S_ 32 8192#32),
    unary main_c_3 main_v19 (broadcastInDim S8192 ![] bcast_S_S8192),
    binary main_v16 main_v19 main_v20 addi,
    ternary main_v18 main_v20 main_v16 main_v21 select,
    nullary main_c_4 (constantI S_ 32 0#32),
    unary main_c_4 main_v22 (broadcastInDim S8192 ![] bcast_S_S8192),
    binary main_v14 main_v22 main_v23 (cmpi .slt),
    nullary main_c_5 (constantI S_ 32 8192#32),
    unary main_c_5 main_v24 (broadcastInDim S8192 ![] bcast_S_S8192),
    binary main_v14 main_v24 main_v25 addi,
    ternary main_v23 main_v25 main_v14 main_v26 select,
    unary main_v21 main_v27 (broadcastInDim S8192x1 ![0] bcast_S8192_S8192x1_0),
    unary main_v26 main_v28 (broadcastInDim S8192x1 ![0] bcast_S8192_S8192x1_0),
    binary main_v27 main_v28 main_v29 (fun a b => concatenate S8192x2 1 [⟨S8192x1, a⟩, ⟨S8192x1, b⟩] concatenates_S8192x1_S8192x1_S8192x2_d1),
    nullary main_cst_6 (constant S_ .f32 0x3F800000#32),
    unary main_cst_6 main_v30 (broadcastInDim S8192 ![] bcast_S_S8192),
    ternary main_v15 main_v29 main_v30 main_v31 (fun x i u => Host.scatter scatter_S8192x8192_S8192x2_S8192_n_01_01_1 (fun _ b => b) x i u) ]

/-- The operations that compute the quantized rows, the loss and the perplexity from the encodings. -/
abbrev opsR : List (HloOp τ sig (Elt F)) :=
  [ binary main_v31 main_arg1 main_v32 (fun l r => Host.dotGeneral dot_S8192x8192_S8192x64_S8192x64_1_0_0_1_n_n none l r),
    binary main_v32 main_arg0 main_v33 subf,
    binary main_v33 main_v33 main_v34 mulf,
    nullary main_cst_7 (constant S_ .f32 0x00000000#32),
    binary main_v34 main_cst_7 main_v35 (fun x v => Host.reduceAdd x v reducesTo_S8192x64_S_d0_1 h_S_),
    nullary main_cst_8 (constant S_ .f32 0x49000000#32),
    binary main_v35 main_cst_8 main_v36 Host.divf,
    nullary main_cst_9 (constant S_ .f32 0x3E800000#32),
    binary main_cst_9 main_v36 main_v37 mulf,
    binary main_v32 main_arg0 main_v38 subf,
    binary main_arg0 main_v38 main_v39 addf,
    nullary main_cst_10 (constant S_ .f32 0x00000000#32),
    binary main_v31 main_cst_10 main_v40 (fun x v => Host.reduceAdd x v reducesTo_S8192x8192_S8192_d0 h_S_),
    nullary main_cst_11 (constant S_ .f32 0x46000000#32),
    unary main_cst_11 main_v41 (broadcastInDim S8192 ![] bcast_S_S8192),
    binary main_v40 main_v41 main_v42 Host.divf,
    nullary main_cst_12 (constant S_ .f32 0x2EDBE6FF#32),
    unary main_cst_12 main_v43 (broadcastInDim S8192 ![] bcast_S_S8192),
    binary main_v42 main_v43 main_v44 addf,
    unary main_v44 main_v45 Host.log,
    binary main_v42 main_v45 main_v46 mulf,
    nullary main_cst_13 (constant S_ .f32 0x00000000#32),
    binary main_v46 main_cst_13 main_v47 (fun x v => Host.reduceAdd x v reducesTo_S8192_S_d0 h_S_),
    unary main_v47 main_v48 Host.negf,
    unary main_v48 main_v49 Host.exp ]

/-- @main's operations, in order. -/
abbrev ops : List (HloOp τ sig (Elt F)) := opsD ++ opsE ++ opsR

set_option maxHeartbeats 4000000 in
/-- @main is that line of operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Each operation touches TensorCore references only. -/
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

variable (V : Valuation τ sig (Elt F))

/-- The first stretch leaves the argmin of the distances … -/
theorem D_v14 : after opsD V (Proc.devRef .tc main_v14)
    = (amin (dist (V (Proc.devRef .tc main_arg0)) (V (Proc.devRef .tc main_arg1))) : IVec S8192 32) := by
  after_results_simp
  rfl
/-- … and the arguments as they were. -/
theorem D_arg0 : after opsD V (Proc.devRef .tc main_arg0) = V (Proc.devRef .tc main_arg0) := by after_results_simp
theorem D_arg1 : after opsD V (Proc.devRef .tc main_arg1) = V (Proc.devRef .tc main_arg1) := by after_results_simp

/-- The second stretch leaves the encodings of the index array it finds … -/
theorem E_v31 : after opsE V (Proc.devRef .tc main_v31)
    = (enc (V (Proc.devRef .tc main_v14)) : FVec F S8192x8192 .f32) := by
  after_results_simp
  rfl
/-- … and the arguments as they were. -/
theorem E_arg0 : after opsE V (Proc.devRef .tc main_arg0) = V (Proc.devRef .tc main_arg0) := by after_results_simp
theorem E_arg1 : after opsE V (Proc.devRef .tc main_arg1) = V (Proc.devRef .tc main_arg1) := by after_results_simp

/-- The last stretch leaves the loss, the straight-through rows and the perplexity of the encodings it finds … -/
theorem R_v37 : after opsR V (Proc.devRef .tc main_v37)
    = (loss (quant (V (Proc.devRef .tc main_v31)) (V (Proc.devRef .tc main_arg1))) (V (Proc.devRef .tc main_arg0)) : FVec F S_ .f32) := by
  after_results_simp
  rfl
theorem R_v39 : after opsR V (Proc.devRef .tc main_v39)
    = (through (quant (V (Proc.devRef .tc main_v31)) (V (Proc.devRef .tc main_arg1))) (V (Proc.devRef .tc main_arg0)) : FVec F S8192x64 .f32) := by
  after_results_simp
  rfl
theorem R_v49 : after opsR V (Proc.devRef .tc main_v49)
    = (perp (probs (V (Proc.devRef .tc main_v31))) : FVec F S_ .f32) := by
  after_results_simp
  rfl
/-- … and the encodings and the arguments as they were. -/
theorem R_v31 : after opsR V (Proc.devRef .tc main_v31) = V (Proc.devRef .tc main_v31) := by after_results_simp
theorem R_arg0 : after opsR V (Proc.devRef .tc main_arg0) = V (Proc.devRef .tc main_arg0) := by after_results_simp
theorem R_arg1 : after opsR V (Proc.devRef .tc main_arg1) = V (Proc.devRef .tc main_arg1) := by after_results_simp

/-- The encodings the reference computes from its two arguments. -/
def encOf (x W : FVec F S8192x64 .f32) : FVec F S8192x8192 .f32 := enc (amin (dist x W))

/-- The run: from any memory with zero counters every weakly fair execution terminates, the four results at their terms
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = loss (quant (encOf (m ((c.tc : Thread nD τ).loc main_arg0)) (m ((c.tc : Thread nD τ).loc main_arg1)))
              (m ((c.tc : Thread nD τ).loc main_arg1))) (m ((c.tc : Thread nD τ).loc main_arg0))
      ∧ r.2.mem ((c.tc : Thread nD τ).loc main_v39)
          = through (quant (encOf (m ((c.tc : Thread nD τ).loc main_arg0)) (m ((c.tc : Thread nD τ).loc main_arg1)))
              (m ((c.tc : Thread nD τ).loc main_arg1))) (m ((c.tc : Thread nD τ).loc main_arg0))
      ∧ r.2.mem ((c.tc : Thread nD τ).loc main_v49)
          = perp (probs (encOf (m ((c.tc : Thread nD τ).loc main_arg0)) (m ((c.tc : Thread nD τ).loc main_arg1))))
      ∧ r.2.mem ((c.tc : Thread nD τ).loc main_v31)
          = encOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (by
        rw [after_append, after_append, R_v37, E_v31, E_arg0, E_arg1, D_v14, D_arg0, D_arg1]; rfl),
      (h c main_v39).trans (by
        rw [after_append, after_append, R_v39, E_v31, E_arg0, E_arg1, D_v14, D_arg0, D_arg1]; rfl),
      (h c main_v49).trans (by
        rw [after_append, after_append, R_v49, E_v31, D_v14]; rfl),
      (h c main_v31).trans (by
        rw [after_append, after_append, R_v31, E_v31, D_v14]; rfl),
      (h c main_arg0).trans (by rw [after_append, after_append, R_arg0, E_arg0, D_arg0]),
      (h c main_arg1).trans (by rw [after_append, after_append, R_arg1, E_arg1, D_arg1])⟩)
    (run_seq scopedRefs_eq scopedSems_eq defs main (fun _ => ops) main_eq (fun _ => ops_sub) m ρ)

/-- The frame: the reference runs, its arguments end unchanged and every semaphore counter reads zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c => (h c).2.2.2.2, sem_eq_zero_of_no_sems (by decide) _⟩) (run m ρ)

end Cert.ReferenceIdeal.Value

end
-- ==== Proof.KernelRun.lean ====
/- The KERNEL program's run: what its four result arrays hold at the end, in terms of what each grid point computes.
   Point `t` handles rows `256t … 256t+255`; the counts and the loss sum are carried from point to point. -/
module

public import proofs.«01_k».proof.Proof.KernelCases
public import proofs.«01_k».proof.Proof.RefRun
public import Idealize.ShloMosaic.Lib.ValueIdx

@[expose] public section

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen

variable {F : FTy → Type} [FloatOps F]
variable (m : (ℓ : Loc nD τ sig) → Buf (Elt F) ℓ) (ρ : Dev nD → PrngReg)

/-! ## Point by point -/

/-- The row block, the codebook and the index block point `t` reads. -/
abbrev xblk (c : Dev nD) (t : Fin cfg0.N) : Vec F S256x64 .f32 := iblk m c 0 t
abbrev wblk (c : Dev nD) (t : Fin cfg0.N) : Vec F S8192x64 .f32 := iblk m c 1 t
abbrev nblk (c : Dev nD) (t : Fin cfg0.N) : Vec F S256x1 .i32 := iblk m c 2 t

/-- The counts after point `n`. -/
def cnt (c : Dev nD) : (n : ℕ) → n < cfg0.N → Vec F S1x8192 .f32
  | 0, h => k0_pay9 (nblk m c ⟨0, h⟩) k0_pay3
  | n + 1, h => k0_pay9 (nblk m c ⟨n + 1, h⟩) (cnt c n (Nat.lt_of_succ_lt h))

/-- The loss sum after point `n`, before the last point's scaling. -/
def sse (c : Dev nD) : (n : ℕ) → n < cfg0.N → Vec F S1x1 .f32
  | 0, h => k0_pay10 (xblk m c ⟨0, h⟩) (wblk m c ⟨0, h⟩) (nblk m c ⟨0, h⟩) k0_pay4
  | n + 1, h => k0_pay10 (xblk m c ⟨n + 1, h⟩) (wblk m c ⟨n + 1, h⟩) (nblk m c ⟨n + 1, h⟩) (sse c n (Nat.lt_of_succ_lt h))

theorem N32 : cfg0.N = 32 := N_0

/-- Every point leaves the one-hot rows of its indices. -/
theorem outs_3 (c : Dev nD) (t : Fin cfg0.N) : (outsAt0 m c t.val t.isLt).1 = k0_pay6 (nblk m c t) := by
  by_cases h0 : t.val % 32 = 0
  · have h1 : ¬t.val % 32 = 31 := by omega
    rw [outsAt0_A m c t h0 h1]; dsimp only; rw [out_A_3]
  · by_cases h1 : t.val % 32 = 31
    · rw [outsAt0_C m c t h0 h1]; dsimp only; rw [out_C_3]
    · rw [outsAt0_B m c t h0 h1]; dsimp only; rw [out_B_3]

/-- Every point leaves the straight-through rows of its block. -/
theorem outs_4 (c : Dev nD) (t : Fin cfg0.N) :
    (outsAt0 m c t.val t.isLt).2.1 = k0_pay8 (xblk m c t) (wblk m c t) (nblk m c t) := by
  by_cases h0 : t.val % 32 = 0
  · have h1 : ¬t.val % 32 = 31 := by omega
    rw [outsAt0_A m c t h0 h1]; dsimp only; rw [out_A_4]
  · by_cases h1 : t.val % 32 = 31
    · rw [outsAt0_C m c t h0 h1]; dsimp only; rw [out_C_4]
    · rw [outsAt0_B m c t h0 h1]; dsimp only; rw [out_B_4]

/-- The counts block after point `n`. -/
theorem outs_5 (c : Dev nD) : ∀ (n : ℕ) (h : n < cfg0.N), (outsAt0 m c n h).2.2.1 = cnt m c n h
  | 0, h => by
    rw [outsAt0_A m c ⟨0, h⟩ rfl (by decide : ¬(0 % 32 = 31))]; dsimp only; rw [out_A_5]; rfl
  | n + 1, h => by
    have hN : n + 1 < 32 := lt_of_lt_of_eq h N32
    have h0 : ¬(n + 1) % 32 = 0 := by omega
    by_cases h1 : (n + 1) % 32 = 31
    · rw [outsAt0_C m c ⟨n + 1, h⟩ h0 h1]
      dsimp only; rw [out_C_5]; exact (congrArg (k0_pay9 (nblk m c ⟨n + 1, h⟩)) (outs_5 c n _))
    · rw [outsAt0_B m c ⟨n + 1, h⟩ h0 h1]
      dsimp only; rw [out_B_5]; exact (congrArg (k0_pay9 (nblk m c ⟨n + 1, h⟩)) (outs_5 c n _))

/-- The loss block after a point before the last. -/
theorem outs_6 (c : Dev nD) : ∀ (n : ℕ) (h : n < cfg0.N), n < 31 → (outsAt0 m c n h).2.2.2.1 = sse m c n h
  | 0, h, _ => by
    rw [outsAt0_A m c ⟨0, h⟩ rfl (by decide : ¬(0 % 32 = 31))]; dsimp only; rw [out_A_6]; rfl
  | n + 1, h, hn => by
    have h0 : ¬(n + 1) % 32 = 0 := by omega
    have h1 : ¬(n + 1) % 32 = 31 := by omega
    rw [outsAt0_B m c ⟨n + 1, h⟩ h0 h1]
    dsimp only; rw [out_B_6]; exact (congrArg (k0_pay10 (xblk m c ⟨n + 1, h⟩) (wblk m c ⟨n + 1, h⟩) (nblk m c ⟨n + 1, h⟩)) (outs_6 c n _ (by omega)))

theorem lt31 : 31 < cfg0.N := by rw [N32]; decide

/-- The last point leaves the scaled loss sum … -/
theorem outs_6_last (c : Dev nD) : (outsAt0 m c 31 lt31).2.2.2.1 = k0_pay1 (sse m c 31 lt31) := by
  rw [outsAt0_C m c ⟨31, lt31⟩ (by decide : ¬(31 % 32 = 0)) (by decide : 31 % 32 = 31)]
  dsimp only; rw [out_C_6]; exact (congrArg (fun z => k0_pay1 (k0_pay10 (xblk m c ⟨31, lt31⟩) (wblk m c ⟨31, lt31⟩)
    (nblk m c ⟨31, lt31⟩) z)) (outs_6 m c 30 _ (by decide)))

/-- … and the perplexity of the counts. -/
theorem outs_7_last (c : Dev nD) : (outsAt0 m c 31 lt31).2.2.2.2 = k0_pay2 (cnt m c 31 lt31) := by
  rw [outsAt0_C m c ⟨31, lt31⟩ (by decide : ¬(31 % 32 = 0)) (by decide : 31 % 32 = 31)]
  dsimp only; rw [out_C_7]; exact (congrArg (fun z => k0_pay2 (k0_pay9 (nblk m c ⟨31, lt31⟩) z)) (outs_5 m c 30 _))

/-! ## The arrays at the end -/

/-- The point that handles row `i`, and the row inside its block. -/
def pt (i : Fin 8192) : Fin cfg0.N := ⟨i.val / 256, by rw [N32]; omega⟩
def rw' (i : Fin 8192) : Fin 256 := ⟨i.val % 256, by omega⟩

/-- The encodings: row `i` is a row of its point's one-hot block. -/
def encK (c : Dev nD) : FVec F S8192x8192 .f32 := fun i => k0_pay6 (nblk m c (pt (i 0))) (ix2 (rw' (i 0)) (i 1))
/-- The straight-through rows. -/
def thrK (c : Dev nD) : FVec F S8192x64 .f32 := fun i =>
  k0_pay8 (xblk m c (pt (i 0))) (wblk m c (pt (i 0))) (nblk m c (pt (i 0))) (ix2 (rw' (i 0)) (i 1))

theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel

/-- Row `256t + r` is handled by point `t` as its row `r`. -/
theorem pt_rw (t : Fin cfg0.N) (r : Fin 256) (i : Fin 8192) (h : i.val = t.val * 256 + 1 * r.val) : pt i = t ∧ rw' i = r :=
  ⟨Fin.ext (by show i.val / 256 = t.val; have := r.isLt; omega), Fin.ext (by show i.val % 256 = r.val; have := r.isLt; omega)⟩

/-- `encK` at a row of point `t`. -/
theorem encK_at (c : Dev nD) (i : S8192x8192.Idx) (t : Fin cfg0.N) (j : S256x8192.Idx)
    (h0 : (i 0).val = t.val * 256 + 1 * (j 0).val) (h1 : (i 1).val = (j 1).val) :
    encK m c i = k0_pay6 (nblk m c t) j := by
  obtain ⟨e, e'⟩ := pt_rw t (j 0) (i 0) h0
  unfold encK
  rw [e, e', show i 1 = j 1 from Fin.ext h1]
  exact congrArg _ (eq_ix2 j).symm

/-- `thrK` at a row of point `t`. -/
theorem thrK_at (c : Dev nD) (i : S8192x64.Idx) (t : Fin cfg0.N) (j : S256x64.Idx)
    (h0 : (i 0).val = t.val * 256 + 1 * (j 0).val) (h1 : (i 1).val = (j 1).val) :
    thrK m c i = k0_pay8 (xblk m c t) (wblk m c t) (nblk m c t) j := by
  obtain ⟨e, e'⟩ := pt_rw t (j 0) (i 0) h0
  unfold thrK
  rw [e, e', show i 1 = j 1 from Fin.ext h1]
  exact congrArg _ (eq_ix2 j).symm

/-- What point `t` writes back to the encodings is its block of `encK`. -/
theorem flushed_3 (c : Dev nD) (t : Fin cfg0.N) (hf : (cfg0.win 3).flush t = true) :
    (dats m 0 c).flushed 3 t = ((cfg0.win 3).blk t).view.read (Elt F) (encK m c) := by
  show (cfg0.win 3).cut (grid0.coords t) ((dats m 0 c).after 3 t) = _
  rw [after0_3, outs_3]
  funext j
  rw [View.read_apply]
  exact (encK_at m c _ t j
    (by show win0_3.index t 0 * 256 + 1 * (j 0).val = _; rw [(index_3 t).1])
    (by show win0_3.index t 1 * 8192 + 1 * (j 1).val = _; rw [(index_3 t).2]; omega)).symm

/-- What point `t` writes back to the straight-through rows is its block of `thrK`. -/
theorem flushed_4 (c : Dev nD) (t : Fin cfg0.N) (hf : (cfg0.win 4).flush t = true) :
    (dats m 0 c).flushed 4 t = ((cfg0.win 4).blk t).view.read (Elt F) (thrK m c) := by
  show (cfg0.win 4).cut (grid0.coords t) ((dats m 0 c).after 4 t) = _
  rw [after0_4, outs_4]
  funext j
  rw [View.read_apply]
  exact (thrK_at m c _ t j
    (by show win0_4.index t 0 * 256 + 1 * (j 0).val = _; rw [(index_4 t).1])
    (by show win0_4.index t 1 * 64 + 1 * (j 1).val = _; rw [(index_4 t).2]; omega)).symm

/-- The loss array is written back once, by the last point. -/
theorem flushed_6 (c : Dev nD) (t : Fin cfg0.N) (hf : (cfg0.win 6).flush t = true) :
    (dats m 0 c).flushed 6 t = ((cfg0.win 6).blk t).view.read (Elt F)
      (k0_pay1 (sse m c 31 lt31) : FVec F S1x1 .f32) := by
  have ht : t.val < 32 := lt_of_lt_of_eq t.isLt N32
  have h3 : t.val = 31 := by have := (flush0_6 t).mp hf; omega
  obtain rfl : t = ⟨31, lt31⟩ := Fin.ext h3
  show (cfg0.win 6).cut (grid0.coords ⟨31, lt31⟩) ((dats m 0 c).after 6 ⟨31, lt31⟩) = _
  rw [after0_6, outs_6_last]
  have hz' : (fun a => win0_6.index ⟨31, lt31⟩ a * main_call0_v16_3.ty.shape.size a) = fun _ => 0 :=
    funext fun a => by fin_cases a <;> decide
  exact (Memref.read_access_unit_zero (Elt F) main_call0_v16_3 hz' (fun a => by rw [congrFun hz' a]; simp) _).symm

/-- The perplexity array is written back once, by the last point. -/
theorem flushed_7 (c : Dev nD) (t : Fin cfg0.N) (hf : (cfg0.win 7).flush t = true) :
    (dats m 0 c).flushed 7 t = ((cfg0.win 7).blk t).view.read (Elt F)
      (k0_pay2 (cnt m c 31 lt31) : FVec F S1x1 .f32) := by
  have ht : t.val < 32 := lt_of_lt_of_eq t.isLt N32
  have h3 : t.val = 31 := by have := (flush0_7 t).mp hf; omega
  obtain rfl : t = ⟨31, lt31⟩ := Fin.ext h3
  show (cfg0.win 7).cut (grid0.coords ⟨31, lt31⟩) ((dats m 0 c).after 7 ⟨31, lt31⟩) = _
  rw [after0_7, outs_7_last]
  have hz' : (fun a => win0_7.index ⟨31, lt31⟩ a * main_call0_v16_4.ty.shape.size a) = fun _ => 0 :=
    funext fun a => by fin_cases a <;> decide
  exact (Memref.read_access_unit_zero (Elt F) main_call0_v16_4 hz' (fun a => by rw [congrFun hz' a]; simp) _).symm

/-- The encodings array ends at `encK`. -/
theorem final_3 (c : Dev nD) : (dats m 0 c).arrAt 3 cfg0.N = encK m c :=
  (dats m 0 c).arrAt_eq_of_cover 3 (encK m c) (flushed_3 m c) fun i =>
    ⟨pt (i 0), flush0_3 _, by
      show i ∈ ((View.whole main_v0_3).slice (win0_3.rect (pt (i 0)))).set
      rw [View.set_slice_whole, Rect.mem_set_unit]
      intro a
      have h0 : (i 0 : Nat) < 8192 := (i 0).isLt
      have h1 : (i 1 : Nat) < 8192 := (i 1).isLt
      match a with
      | ⟨0, _⟩ => show win0_3.index (pt (i 0)) 0 * 256 ≤ (i 0 : Nat) ∧ (i 0 : Nat) < win0_3.index (pt (i 0)) 0 * 256 + 256
                  rw [(index_3 _).1]; show (i 0 : Nat) / 256 * 256 ≤ _ ∧ _ < (i 0 : Nat) / 256 * 256 + 256; omega
      | ⟨1, _⟩ => show win0_3.index (pt (i 0)) 1 * 8192 ≤ (i 1 : Nat) ∧ (i 1 : Nat) < win0_3.index (pt (i 0)) 1 * 8192 + 8192
                  rw [(index_3 _).2]; omega⟩

/-- The straight-through array ends at `thrK`. -/
theorem final_4 (c : Dev nD) : (dats m 0 c).arrAt 4 cfg0.N = thrK m c :=
  (dats m 0 c).arrAt_eq_of_cover 4 (thrK m c) (flushed_4 m c) fun i =>
    ⟨pt (i 0), flush0_4 _, by
      show i ∈ ((View.whole main_v0_1).slice (win0_4.rect (pt (i 0)))).set
      rw [View.set_slice_whole, Rect.mem_set_unit]
      intro a
      have h0 : (i 0 : Nat) < 8192 := (i 0).isLt
      have h1 : (i 1 : Nat) < 64 := (i 1).isLt
      match a with
      | ⟨0, _⟩ => show win0_4.index (pt (i 0)) 0 * 256 ≤ (i 0 : Nat) ∧ (i 0 : Nat) < win0_4.index (pt (i 0)) 0 * 256 + 256
                  rw [(index_4 _).1]; show (i 0 : Nat) / 256 * 256 ≤ _ ∧ _ < (i 0 : Nat) / 256 * 256 + 256; omega
      | ⟨1, _⟩ => show win0_4.index (pt (i 0)) 1 * 64 ≤ (i 1 : Nat) ∧ (i 1 : Nat) < win0_4.index (pt (i 0)) 1 * 64 + 64
                  rw [(index_4 _).2]; omega⟩

/-- The loss array ends at the scaled sum. -/
theorem final_6 (c : Dev nD) : (dats m 0 c).arrAt 6 cfg0.N = (k0_pay1 (sse m c 31 lt31) : FVec F S1x1 .f32) :=
  (dats m 0 c).arrAt_eq_of_cover 6 (k0_pay1 (sse m c 31 lt31) : FVec F S1x1 .f32) (flushed_6 m c) fun i =>
    ⟨⟨31, lt31⟩, (flush0_6 ⟨31, lt31⟩).mpr rfl, by
      show i ∈ ((View.whole main_call0_v16_3).slice (win0_6.rect ⟨31, lt31⟩)).set
      rw [View.set_slice_whole, Rect.mem_set_unit]
      intro a
      have h0 : (i 0 : Nat) < 1 := (i 0).isLt
      have h1 : (i 1 : Nat) < 1 := (i 1).isLt
      match a with
      | ⟨0, _⟩ => show win0_6.index ⟨31, lt31⟩ 0 * 1 ≤ (i 0 : Nat) ∧ (i 0 : Nat) < win0_6.index ⟨31, lt31⟩ 0 * 1 + 1
                  rw [(index_6 _).1]; omega
      | ⟨1, _⟩ => show win0_6.index ⟨31, lt31⟩ 1 * 1 ≤ (i 1 : Nat) ∧ (i 1 : Nat) < win0_6.index ⟨31, lt31⟩ 1 * 1 + 1
                  rw [(index_6 _).2]; omega⟩

/-- The perplexity array ends at the perplexity of the counts. -/
theorem final_7 (c : Dev nD) : (dats m 0 c).arrAt 7 cfg0.N = (k0_pay2 (cnt m c 31 lt31) : FVec F S1x1 .f32) :=
  (dats m 0 c).arrAt_eq_of_cover 7 (k0_pay2 (cnt m c 31 lt31) : FVec F S1x1 .f32) (flushed_7 m c) fun i =>
    ⟨⟨31, lt31⟩, (flush0_7 ⟨31, lt31⟩).mpr rfl, by
      show i ∈ ((View.whole main_call0_v16_4).slice (win0_7.rect ⟨31, lt31⟩)).set
      rw [View.set_slice_whole, Rect.mem_set_unit]
      intro a
      have h0 : (i 0 : Nat) < 1 := (i 0).isLt
      have h1 : (i 1 : Nat) < 1 := (i 1).isLt
      match a with
      | ⟨0, _⟩ => show win0_7.index ⟨31, lt31⟩ 0 * 1 ≤ (i 0 : Nat) ∧ (i 0 : Nat) < win0_7.index ⟨31, lt31⟩ 0 * 1 + 1
                  rw [(index_7 _).1]; omega
      | ⟨1, _⟩ => show win0_7.index ⟨31, lt31⟩ 1 * 1 ≤ (i 1 : Nat) ∧ (i 1 : Nat) < win0_7.index ⟨31, lt31⟩ 1 * 1 + 1
                  rw [(index_7 _).2]; omega⟩

/-! ## The lines after the region -/

/-- What the lines after the region start from: the arrays as the region leaves them. -/
abbrev W1 (c : Dev nD) : Valuation τ sig (Elt F) :=
  Pipeline.withArrays spec0 c (V0 m c) fun w => (dats m 0 c).arrAt w cfg0.N

theorem tail_0 (c : Dev nD) : Pipeline.afterTail₀ cfgs (dats m) 0 (V0 m) [hostOps1] c main_v0_0
    = shapeCast S_ (k0_pay1 (sse m c 31 lt31) : FVec F S1x1 .f32) shapeCasts_S1x1_S_ := by
  have e : W1 m c (Proc.devRef .tc main_call0_v16_3) = _ := Pipeline.withArrays_arr spec0 launch0.win.arr_inj c _ _ 6
  show StableHlo.after hostOps1 (W1 m c) (Proc.devRef .tc main_v0_0) = _
  after_results
  rw [e, final_6]
  rfl

theorem tail_2 (c : Dev nD) : Pipeline.afterTail₀ cfgs (dats m) 0 (V0 m) [hostOps1] c main_v0_2
    = shapeCast S_ (k0_pay2 (cnt m c 31 lt31) : FVec F S1x1 .f32) shapeCasts_S1x1_S_ := by
  have e : W1 m c (Proc.devRef .tc main_call0_v16_4) = _ := Pipeline.withArrays_arr spec0 launch0.win.arr_inj c _ _ 7
  show StableHlo.after hostOps1 (W1 m c) (Proc.devRef .tc main_v0_2) = _
  after_results
  rw [e, final_7]
  rfl

/-- The run: from any memory with zero counters every weakly fair execution terminates, the four results as computed
    point by point and the arguments unchanged. -/
theorem run : θ_run defs (onTc (τ := τ) (main (F := F))) ⟨m, fun _ => 0, ρ⟩ fun r => ∀ c : Dev nD,
      r.2.mem ((c.tc : Thread nD τ).loc main_v0_0)
          = shapeCast S_ (k0_pay1 (sse m c 31 lt31) : FVec F S1x1 .f32) shapeCasts_S1x1_S_
      ∧ r.2.mem ((c.tc : Thread nD τ).loc main_v0_1) = thrK m c
      ∧ r.2.mem ((c.tc : Thread nD τ).loc main_v0_2)
          = shapeCast S_ (k0_pay2 (cnt m c 31 lt31) : FVec F S1x1 .f32) shapeCasts_S1x1_S_
      ∧ r.2.mem ((c.tc : Thread nD τ).loc main_v0_3) = encK m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0_0 (Pipeline.mem_restRefs_of main_v0_0 rfl (by decide))).trans (tail_0 m c),
      ((h c).1 4).trans (final_4 m c),
      ((h c).2 main_v0_2 (Pipeline.mem_restRefs_of main_v0_2 rfl (by decide))).trans (tail_2 m c),
      ((h c).1 3).trans (final_3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The blocks a point reads -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

/-- Row `r` of point `t`, as a row of the whole array. -/
def row (t : Fin cfg0.N) (r : Fin 256) : Fin 8192 :=
  ⟨t.val * 256 + r.val, by have h2 : t.val < 32 := lt_of_lt_of_eq t.isLt N32; have := r.isLt; omega⟩

/-- The row block is 256 consecutive rows of the first argument. -/
theorem xblk_at (c : Dev nD) (t : Fin cfg0.N) (r : Fin 256) (d : Fin 64) :
    xblk m c t (ix2 r d) = (m ((c.tc : Thread nD τ).loc main_arg0) : FVec F S8192x64 .f32) (ix2 (row t r) d) := by
  show iblk m c 0 t (ix2 r d) = _
  unfold iblk
  rw [View.read_apply]
  refine (congrFun (V_main_arg0 m c) _).trans (congrArg _ ?_)
  funext a
  apply Fin.ext
  match a with
  | ⟨0, _⟩ => show win0_0.index t 0 * 256 + 1 * r.val = t.val * 256 + r.val; rw [(index_0 t).1]; omega
  | ⟨1, _⟩ => show win0_0.index t 1 * 64 + 1 * d.val = d.val; rw [(index_0 t).2]; omega

/-- The codebook block is the whole second argument. -/
theorem wblk_eq (c : Dev nD) (t : Fin cfg0.N) : wblk m c t = m ((c.tc : Thread nD τ).loc main_arg1) := by
  show iblk m c 1 t = _
  unfold iblk
  funext j
  rw [View.read_apply]
  refine (congrFun (V_main_arg1 m c) _).trans (congrArg _ ?_)
  funext a
  apply Fin.ext
  match a with
  | ⟨0, _⟩ => show win0_1.index t 0 * 8192 + 1 * (j 0).val = (j 0).val; rw [(index_1 t).1]; omega
  | ⟨1, _⟩ => show win0_1.index t 1 * 64 + 1 * (j 1).val = (j 1).val; rw [(index_1 t).2]; omega

end Cert.KernelIdeal.Value

end
-- ==== Proof.Encodings.lean ====
/- The reference's encodings, entry by entry: row `i` holds a one at the column its index names and zeros elsewhere.
   Each index is a column of the row it was taken from, so none is out of range. -/
module

public import proofs.«01_k».proof.Proof.RefRun
public import Idealize.ShloMosaic.Lib.ValueIdx
public import Idealize.ShloMosaic.Lib.Pointwise.SelectCore
public import Idealize.ShloMosaic.PureOps.Ideal.Laws
public import Idealize.ShloMosaic.Lib.Routing.OpsPair
public import Idealize.ShloMosaic.Lib.Routing.OpsOne

@[expose] public section

set_option maxRecDepth 16384

noncomputable section

open Idealize.ShloMosaic hiding ix1 ix2
open Idealize.ShloMosaic.ValueIdx

namespace Cert.ReferenceIdeal.Value

open Cert.ReferenceIdeal Cert.ReferenceIdeal.Gen

/-! ## The index of the least entry is a column -/

/-- The comparison's index is one of the two it is given. -/
theorem reducer_snd (p : BitVec 32 → Prop) (a b : Ideal .f32 × BitVec 32) (ha : p a.2) (hb : p b.2) :
    p (reducer_argmin_f32_i32 (F := Ideal) a b).2 := by
  unfold reducer_argmin_f32_i32 Scalar.select
  dsimp only
  split
  · exact ha
  · exact hb

/-- A fold of it keeps what holds of the initial index and of every index it meets. -/
theorem foldl_snd (p : BitVec 32 → Prop) (l : List (Ideal .f32 × BitVec 32)) (a : Ideal .f32 × BitVec 32) (ha : p a.2)
    (hl : ∀ b ∈ l, p b.2) : p (l.foldl (reducer_argmin_f32_i32 (F := Ideal)) a).2 := by
  induction l generalizing a with
  | nil => exact ha
  | cons b l ih =>
    exact ih _ (reducer_snd p a b ha (hl b (List.mem_cons_self ..))) fun b' h => hl b' (List.mem_cons_of_mem _ h)

/-- What holds of the initial index and of every index paired with an entry holds of the index of the least one. -/
theorem argReduce_snd {s t u : Shape} {axes : List (Fin s.rank)} (p : BitVec 32 → Prop) (x : FVec Ideal s .f32)
    (y : s.Idx → BitVec 32) (ix : u.Idx → Ideal .f32) (iy : u.Idx → BitVec 32) (h : s.ReducesTo axes t) (hu : 0 < u.numel)
    (hy : ∀ i, p (y i)) (hi : ∀ i, p (iy i)) (j : t.Idx) :
    p (Host.argReduce (reducer_argmin_f32_i32 (F := Ideal)) x y ix iy h hu j).2 := by
  rw [Idealize.ShloMosaic.Ideal.argReduce_eq_reduce2, Host.reduce2_eq_foldl_fiber]
  refine foldl_snd p _ _ (hi _) fun b hb => ?_
  unfold Host.argReduceFiber at hb
  obtain ⟨n, -, rfl⟩ := List.mem_map.1 hb
  exact hy _

/-- A column's number is below 8192. -/
theorem iota_lt (i : S8192x8192.Idx) : (iotaInDim S8192x8192 32 1 i).toNat < 8192 := by
  have h : (i 1).val < 8192 := (i 1).isLt
  show (BitVec.ofNat 32 (i 1).val).toNat < 8192
  rw [BitVec.toNat_ofNat, Nat.mod_eq_of_lt (by omega)]
  exact h

/-- What holds of every entry of an index array. -/
def Every {s : Shape} (p : BitVec 32 → Prop) (f : s.Idx → BitVec 32) : Prop := ∀ j, p (f j)

/-- What holds of the initial index and of every index paired with an entry holds of all the indices taken. -/
theorem argReduce_every {s t u : Shape} {axes : List (Fin s.rank)} (p : BitVec 32 → Prop) (x : FVec Ideal s .f32)
    (y : s.Idx → BitVec 32) (ix : u.Idx → Ideal .f32) (iy : u.Idx → BitVec 32) (h : s.ReducesTo axes t) (hu : 0 < u.numel)
    (hy : ∀ i, p (y i)) (hi : ∀ i, p (iy i)) :
    Every p (fun j : t.Idx => (Host.argReduce (reducer_argmin_f32_i32 (F := Ideal)) x y ix iy h hu j).2) :=
  argReduce_snd p x y ix iy h hu hy hi

/-- What holds of the indices as the reduction yields them holds of the argmin. -/
theorem amin_of (P : IVec S8192 32 → Prop) (d : FVec Ideal S8192x8192 .f32)
    (h : P (fun j => (Host.argReduce reducer_argmin_f32_i32 d (iotaInDim S8192x8192 32 1)
      (constant S_ .f32 0x7F800000#32) (constantI S_ 32 0#32) reducesTo_S8192x8192_S8192_d1 h_S_ j).2)) :
    P (amin d) := h

/-- Every argmin has what the columns' numbers and zero have. -/
theorem amin_every (p : BitVec 32 → Prop) (d : FVec Ideal S8192x8192 .f32)
    (hy : ∀ i, p (iotaInDim S8192x8192 32 1 i)) (h0 : ∀ i, p (constantI S_ 32 0#32 i)) : Every p (amin d) :=
  amin_of (Every p) d (argReduce_every p d (iotaInDim S8192x8192 32 1) (constant S_ .f32 0x7F800000#32)
    (constantI S_ 32 0#32) reducesTo_S8192x8192_S8192_d1 h_S_ hy h0)

/-- Each entry of an array every entry of which is below 8192. -/
theorem lt_of_every (f : IVec S8192 32) (h : Every (fun v => v.toNat < 8192) f) (i : Fin 8192) :
    (f (ix1 i)).toNat < 8192 := h (ix1 i)

/-- The argmin of a row is below 8192. -/
theorem amin_lt (d : FVec Ideal S8192x8192 .f32) (i : Fin 8192) : (amin d (ix1 i)).toNat < 8192 :=
  lt_of_every _ (amin_every (fun v => v.toNat < 8192) d iota_lt (fun _ => Nat.zero_lt_succ _)) i

/-! ## Where the ones land -/

variable {F : FTy → Type} [FloatOps F]

/-- A nonnegative index is read as it is. -/
theorem norm_at (v : IVec S8192 32) (i : S8192.Idx) (h : (v i).toNat < 8192) : norm v i = v i :=
  Routing.wrap_of_lt (v i) _ (by omega)

theorem pairs_0 (idx : IVec S8192 32) (k : Fin 8192) : pairs idx (ix2 k 0) = norm (iotaInDim S8192 32 0) (ix1 k) := by
  unfold pairs
  generalize norm (iotaInDim S8192 32 0) = u
  generalize norm idx = v
  refine (concatenate_pair_apply_left (t := S8192x2) (s₁ := S8192x1) (s₂ := S8192x1) 1 _ _ _ (ix2 k 0) rfl (ix2 k 0 : S8192x1.Idx) ?_).trans ?_
  · intro b; fin_cases b <;> rfl
  · exact congrArg u (funext fun b => by fin_cases b; rfl)

theorem pairs_1 (idx : IVec S8192 32) (k : Fin 8192) : pairs idx (ix2 k 1) = norm idx (ix1 k) := by
  unfold pairs
  generalize norm (iotaInDim S8192 32 0) = u
  generalize norm idx = v
  refine (concatenate_pair_apply_right (t := S8192x2) (s₁ := S8192x1) (s₂ := S8192x1) 1 _ _ _ (ix2 k 1) rfl rfl (ix2 k 0 : S8192x1.Idx) ?_ rfl).trans ?_
  · intro b hb; fin_cases b
    · rfl
    · exact absurd rfl hb
  · exact congrArg v (funext fun b => by fin_cases b; rfl)

theorem toInt_small (v : BitVec 32) (h : v.toNat < 8192) : v.toInt = (v.toNat : Int) := by
  rw [BitVec.toInt_eq_toNat_of_lt (by omega)]

/-- Row `k`'s update reads its pair of indices at `(k, 0)` and `(k, 1)`. -/
theorem si_at (k : Fin 8192) (q : Fin 2) (h) :
    scatter_S8192x8192_S8192x2_S8192_n_01_01_1.siIdx (ix1 k) ⟨q.val, h⟩ = ix2 k q := by
  funext b
  apply Fin.ext
  match b with
  | ⟨0, _⟩ => rfl
  | ⟨1, _⟩ => rfl

/-- Row `k`'s update lands at `(i, j)` exactly when `k = i` and its index is `j`. -/
theorem lands (idx : IVec S8192 32) (hidx : ∀ i : Fin 8192, (idx (ix1 i)).toNat < 8192) (k i j : Fin 8192) :
    scatter_S8192x8192_S8192x2_S8192_n_01_01_1.resultIdx? (ix1 k) (pairs idx) = some (ix2 i j)
      ↔ k = i ∧ (idx (ix1 k)).toNat = j.val := by
  have hw : ∀ q : Fin 2, scatter_S8192x8192_S8192x2_S8192_n_01_01_1.window (ix1 k) q = 0 := fun q => by
    fin_cases q <;> rfl
  have h0 : scatter_S8192x8192_S8192x2_S8192_n_01_01_1.start (ix1 k) (pairs idx) 0 = (k.val : Int) := by
    unfold ScatterDims.start
    rw [dif_pos (by decide)]
    have e := si_at k 0 (by decide)
    have hk : (iotaInDim S8192 32 0 (ix1 k)).toNat = k.val := by
      show (BitVec.ofNat 32 k.val).toNat = k.val
      rw [BitVec.toNat_ofNat, Nat.mod_eq_of_lt (by have := k.isLt; omega)]
    have hlt : (iotaInDim S8192 32 0 (ix1 k)).toNat < 8192 := by rw [hk]; exact k.isLt
    refine (congrArg (fun z => (pairs idx z).toInt) e).trans ?_
    show (pairs idx (ix2 k 0)).toInt = _
    rw [pairs_0, norm_at _ _ hlt, toInt_small _ hlt, hk]
  have h1 : scatter_S8192x8192_S8192x2_S8192_n_01_01_1.start (ix1 k) (pairs idx) 1 = ((idx (ix1 k)).toNat : Int) := by
    unfold ScatterDims.start
    rw [dif_pos (by decide)]
    have e := si_at k 1 (by decide)
    refine (congrArg (fun z => (pairs idx z).toInt) e).trans ?_
    show (pairs idx (ix2 k 1)).toInt = _
    rw [pairs_1, norm_at _ _ (hidx k), toInt_small _ (hidx k)]
  rw [Routing.resultIdx?_ix2, h0, h1, hw, hw]
  constructor
  · rintro ⟨a, b⟩; exact ⟨Fin.ext (by omega), by omega⟩
  · rintro ⟨rfl, b⟩; exact ⟨by omega, by omega⟩

/-- The encodings, entry by entry. -/
theorem enc_at (idx : IVec S8192 32) (hidx : ∀ i : Fin 8192, (idx (ix1 i)).toNat < 8192) (i j : Fin 8192) :
    (enc idx : FVec F S8192x8192 .f32) (ix2 i j)
      = if (idx (ix1 i)).toNat = j.val then Scalar.ofBits .f32 0x3F800000#32 else Scalar.ofBits .f32 0x00000000#32 := by
  unfold enc
  by_cases h : (idx (ix1 i)).toNat = j.val
  · rw [if_pos h]
    exact Routing.scatter_set_hit _ _ _ _ _ _ (fun _ _ => rfl) (ix1 i) ((lands idx hidx i i j).2 ⟨rfl, h⟩)
  · rw [if_neg h]
    refine Routing.scatter_set_miss _ _ _ _ _ fun k hk => h ?_
    obtain ⟨k, rfl⟩ : ∃ k' : Fin 8192, k = ix1 k' := ⟨k 0, ValueIdx.eq_ix1 k⟩
    obtain ⟨rfl, e⟩ := (lands idx hidx k i j).1 hk
    exact e

end Cert.ReferenceIdeal.Value

end
-- ==== Proof.Payload.lean ====
/- The kernel's block computations entry by entry, over the extended reals. -/
module

public import proofs.«01_k».proof.Proof.KernelRun
public import proofs.«01_k».proof.Proof.Encodings
public import Idealize.ShloMosaic.Lib.ValueIdx
public import Idealize.ShloMosaic.Lib.ValueLayout
public import Idealize.ShloMosaic.Lib.KernelVsHost
public import Idealize.ShloMosaic.Lib.StackMember
public import Idealize.ShloMosaic.Lib.Pointwise.Tactic
public import Idealize.ShloMosaic.Lib.Pointwise.Reduce
public import Idealize.ShloMosaic.Lib.Pointwise.Reshape

@[expose] public section

set_option maxRecDepth 16384

noncomputable section

open Idealize.ShloMosaic hiding ix1 ix2 ix3
open Idealize.ShloMosaic.ValueIdx

namespace Cert.KernelIdeal.Value

open Cert.KernelIdeal Cert.KernelIdeal.Gen

/-- A one-hot block: a one where the column is the row's index, zeros elsewhere. -/
theorem pay6_at (v : Vec Ideal S256x1 .i32) (r : Fin 256) (j : Fin 8192) :
    (k0_pay6 v : FVec Ideal S256x8192 .f32) (ix2 r j)
      = if (v (ix2 r 0)).toNat = j.val then (1 : EReal) else 0 := by
  unfold k0_pay6
  dsimp only
  pointwise
  have e : ∀ a b : BitVec 32, IntOp.cmpi .eq a b = if a = b then 1#1 else 0#1 := fun a b => by
    show BitVec.ofBool (a == b) = _
    by_cases h : a = b
    · rw [if_pos h, beq_iff_eq.2 h]; rfl
    · rw [if_neg h, beq_eq_false_iff_ne.2 h]; rfl
  rw [e]
  show (((BitVec.setWidth 32 (if BitVec.ofNat 32 j.val = v (ix2 r 0) then 1#1 else 0#1)).toInt : ℝ) : EReal) = _
  have hj : (BitVec.ofNat 32 j.val).toNat = j.val := by
    rw [BitVec.toNat_ofNat, Nat.mod_eq_of_lt (by have := j.isLt; omega)]
  by_cases h : (v (ix2 r 0)).toNat = j.val
  · rw [if_pos h, if_pos (BitVec.eq_of_toNat_eq (by rw [hj, h]))]
    norm_num
  · rw [if_neg h, if_neg fun e => h (by rw [← e, hj])]
    norm_num

/-- The quantized block: the one-hot block times the codebook. -/
theorem pay7_at (W : Vec Ideal S8192x64 .f32) (v : Vec Ideal S256x1 .i32) (r : Fin 256) (d : Fin 64) :
    (k0_pay7 W v : FVec Ideal S256x64 .f32) (ix2 r d)
      = ∑ k : Fin 8192, (k0_pay6 v : FVec Ideal S256x8192 .f32) (ix2 r k) * W (ix2 k d) := by
  unfold k0_pay7
  rw [matmul_zero_eq_dotGeneral]
  exact StackMember.dotGeneral_plain_apply (m := 256) (n := 64) (k := 8192) none (k0_pay6 v : FVec Ideal S256x8192 .f32) W r d

/-- The straight-through block. -/
theorem pay8_at (x : Vec Ideal S256x64 .f32) (W : Vec Ideal S8192x64 .f32) (v : Vec Ideal S256x1 .i32) (i : S256x64.Idx) :
    (k0_pay8 x W v : FVec Ideal S256x64 .f32) i
      = (x i + ((k0_pay7 W v : FVec Ideal S256x64 .f32) i - x i) : EReal) := rfl

/-- A block's counts are added to the counts so far. -/
theorem pay9_at (v : Vec Ideal S256x1 .i32) (c : Vec Ideal S1x8192 .f32) (j : Fin 8192) :
    (k0_pay9 v c : FVec Ideal S1x8192 .f32) (ix2 0 j)
      = (c (ix2 0 j) + ∑ r : Fin 256, (k0_pay6 v : FVec Ideal S256x8192 .f32) (ix2 r j) : EReal) := by
  unfold k0_pay9
  dsimp only
  generalize (k0_pay6 v : FVec Ideal S256x8192 .f32) = e
  pointwise
  rfl

/-- A block's sum of squared differences is added to the sum so far. -/
theorem pay10_at (x : Vec Ideal S256x64 .f32) (W : Vec Ideal S8192x64 .f32) (v : Vec Ideal S256x1 .i32)
    (s : Vec Ideal S1x1 .f32) :
    (k0_pay10 x W v s : FVec Ideal S1x1 .f32) (ix2 0 0)
      = (s (ix2 0 0) + ∑ r : Fin 256, ∑ d : Fin 64,
          ((k0_pay7 W v : FVec Ideal S256x64 .f32) (ix2 r d) - x (ix2 r d))
            * ((k0_pay7 W v : FVec Ideal S256x64 .f32) (ix2 r d) - x (ix2 r d)) : EReal) := by
  unfold k0_pay10
  dsimp only
  generalize (k0_pay7 W v : FVec Ideal S256x64 .f32) = q
  pointwise
  rfl

/-- The loss from the whole sum. -/
theorem pay1_at (s : Vec Ideal S1x1 .f32) :
    (k0_pay1 s : FVec Ideal S1x1 .f32) (ix2 0 0)
      = Ideal.div (Ideal.ofBits .f32 0x3E800000#32 * s (ix2 0 0)) (Ideal.ofBits .f32 0x49000000#32) := by
  unfold k0_pay1
  pointwise

/-- The perplexity from the whole counts. -/
theorem pay2_at (c : Vec Ideal S1x8192 .f32) :
    (k0_pay2 c : FVec Ideal S1x1 .f32) (ix2 0 0)
      = Ideal.exp (0 - ∑ j : Fin 8192, Ideal.div (c (ix2 0 j)) (Ideal.ofBits .f32 0x46000000#32)
          * Ideal.log (Ideal.div (c (ix2 0 j)) (Ideal.ofBits .f32 0x46000000#32) + Ideal.ofBits .f32 0x2EDBE6FF#32)) := by
  unfold k0_pay2
  dsimp only
  pointwise
  rw [Fin.sum_univ_one]
  rfl

end Cert.KernelIdeal.Value

end
-- ==== Proof.RefValue.lean ====
/- The reference's results entry by entry, over the extended reals. -/
module

public import proofs.«01_k».proof.Proof.Encodings
public import Idealize.ShloMosaic.Lib.ValueIdx
public import Idealize.ShloMosaic.Lib.StackMember
public import Idealize.ShloMosaic.Lib.Pointwise.Tactic
public import Idealize.ShloMosaic.Lib.Pointwise.Reduce
public import Idealize.ShloMosaic.Lib.Pointwise.Reshape

@[expose] public section

set_option maxRecDepth 16384

noncomputable section

open Idealize.ShloMosaic hiding ix1 ix2 ix3
open Idealize.ShloMosaic.ValueIdx

namespace Cert.ReferenceIdeal.Value

open Cert.ReferenceIdeal Cert.ReferenceIdeal.Gen

/-- The encodings are ones and zeros. -/
theorem enc_01 (idx : IVec S8192 32) (hidx : ∀ i : Fin 8192, (idx (ix1 i)).toNat < 8192) (i j : Fin 8192) :
    (enc idx : FVec Ideal S8192x8192 .f32) (ix2 i j) = if (idx (ix1 i)).toNat = j.val then (1 : EReal) else 0 := by
  rw [enc_at idx hidx]
  split
  · exact Ideal.ofBits_one_f32
  · exact Ideal.ofBits_zero_f32

/-- The encodings the reference computes are those of its argmin. -/
theorem encOf_eq (x W : FVec Ideal S8192x64 .f32) : encOf x W = enc (amin (dist x W)) := rfl

/-- The quantized rows. -/
theorem quant_at (e : FVec Ideal S8192x8192 .f32) (W : FVec Ideal S8192x64 .f32) (i : Fin 8192) (d : Fin 64) :
    quant e W (ix2 i d) = ∑ k : Fin 8192, e (ix2 i k) * W (ix2 k d) :=
  StackMember.dotGeneral_plain_apply (m := 8192) (n := 64) (k := 8192) none e W i d

/-- The loss. -/
theorem loss_at (q x : FVec Ideal S8192x64 .f32) (i : S_.Idx) :
    loss q x i = Ideal.ofBits .f32 0x3E800000#32
      * Ideal.div (∑ i : Fin 8192, ∑ d : Fin 64, (q (ix2 i d) - x (ix2 i d)) * (q (ix2 i d) - x (ix2 i d)) : EReal)
        (Ideal.ofBits .f32 0x49000000#32) := by
  unfold loss
  pointwise
  rfl

/-- The straight-through output. -/
theorem through_at (q x : FVec Ideal S8192x64 .f32) (i : S8192x64.Idx) :
    through q x i = (x i + (q i - x i) : EReal) := rfl

/-- The average of a column. -/
theorem probs_at (e : FVec Ideal S8192x8192 .f32) (j : Fin 8192) :
    probs e (ix1 j) = Ideal.div (∑ i : Fin 8192, e (ix2 i j) : EReal) (Ideal.ofBits .f32 0x46000000#32) := by
  unfold probs
  pointwise
  rfl

/-- The perplexity. -/
theorem perp_at (p : FVec Ideal S8192 .f32) (i : S_.Idx) :
    perp p i = Ideal.exp (-(∑ j : Fin 8192, p (ix1 j) * Ideal.log (p (ix1 j) + Ideal.ofBits .f32 0x2EDBE6FF#32) : EReal)) := by
  unfold perp
  pointwise
  rfl

end Cert.ReferenceIdeal.Value

end
-- ==== Proof.Sums.lean ====
/- Sums over the 8192 rows, taken 256 rows at a time in the order of the grid's 32 points. -/
module

public import Mathlib.Algebra.BigOperators.Fin
public import Mathlib.Data.EReal.Operations

@[expose] public section

noncomputable section

namespace Cert.Sums

/-- A sum over the rows is the sum over the blocks of the sum over a block's rows. -/
theorem sum_blocks (f : ℕ → EReal) :
    ∑ i : Fin 8192, f i.val = ∑ t ∈ Finset.range 32, ∑ r : Fin 256, f (t * 256 + r.val) := by
  rw [← Fin.sum_univ_eq_sum_range (fun t => ∑ r : Fin 256, f (t * 256 + r.val)) 32, ← Fintype.sum_prod_type']
  refine (Equiv.sum_comp (finProdFinEquiv (m := 32) (n := 256)) (fun i : Fin (32 * 256) => f i.val)).symm.trans ?_
  refine Finset.sum_congr rfl fun p _ => congrArg f ?_
  show p.2.val + 256 * p.1.val = p.1.val * 256 + p.2.val
  omega

/-- A running sum over the blocks: `a n` after block `n`. -/
theorem running (N : ℕ) (g : ℕ → EReal) (a : (n : ℕ) → n < N → EReal) (h0 : ∀ h, a 0 h = g 0)
    (hs : ∀ n (h : n + 1 < N), a (n + 1) h = a n (Nat.lt_of_succ_lt h) + g (n + 1)) :
    ∀ (n : ℕ) (h : n < N), a n h = ∑ t ∈ Finset.range (n + 1), g t
  | 0, h => by rw [h0, Finset.sum_range_one]
  | n + 1, h => by rw [hs, running N g a h0 hs n _, Finset.sum_range_succ _ (n + 1)]

/-- A running sum of the blocks' sums is, after the last block, the sum over all the rows. -/
theorem running_rows (N : ℕ) (hN : 31 < N) (f : Fin 8192 → EReal) (row : Fin N → Fin 256 → Fin 8192)
    (hrow : ∀ t r, (row t r).val = t.val * 256 + r.val) (a : (n : ℕ) → n < N → EReal)
    (h0 : ∀ h, a 0 h = ∑ r, f (row ⟨0, h⟩ r))
    (hs : ∀ n (h : n + 1 < N), a (n + 1) h = a n (Nat.lt_of_succ_lt h) + ∑ r, f (row ⟨n + 1, h⟩ r)) :
    a 31 hN = ∑ i, f i := by
  have e : ∀ n (h : n < N), ∑ r, f (row ⟨n, h⟩ r)
      = ∑ r : Fin 256, (fun i => if h : i < 8192 then f ⟨i, h⟩ else 0) (n * 256 + r.val) := fun n h =>
    Finset.sum_congr rfl fun r _ => by
      have hr := hrow ⟨n, h⟩ r
      have hl : n * 256 + r.val < 8192 := hr ▸ (row ⟨n, h⟩ r).isLt
      show _ = dite _ _ _
      rw [dif_pos hl]
      exact congrArg f (Fin.ext hr)
  rw [running N (fun t => ∑ r : Fin 256, (fun i => if h : i < 8192 then f ⟨i, h⟩ else 0) (t * 256 + r.val)) a
    (fun h => (h0 h).trans (e 0 h)) (fun n h => by rw [hs, e]) 31 hN]
  refine (sum_blocks (fun i => if h : i < 8192 then f ⟨i, h⟩ else 0)).symm.trans ?_
  exact Finset.sum_congr rfl fun i _ => dif_pos i.isLt

end Cert.Sums

end
-- ==== Proof.Results.lean ====
/- The kernel's four results are the reference's, for any index array the kernel's index blocks are read from. -/
module

public import proofs.«01_k».proof.Proof.Payload
public import proofs.«01_k».proof.Proof.RefValue
public import proofs.«01_k».proof.Proof.Sums

@[expose] public section

set_option maxRecDepth 16384

noncomputable section

open Idealize.ShloMosaic hiding ix1 ix2 ix3
open Idealize.ShloMosaic.TcCoe
open Idealize.ShloMosaic.ValueIdx
open Cert.ReferenceIdeal.Value (enc quant loss through probs perp enc_01 quant_at loss_at through_at probs_at perp_at)

namespace Cert.KernelIdeal.Value

open Cert.KernelIdeal Cert.KernelIdeal.Gen

variable (m : (ℓ : Loc nD τ sig) → Buf (Elt Ideal) ℓ) (c : Dev nD) (idx : IVec S8192 32)

/-- The first argument. -/
abbrev X : FVec Ideal S8192x64 .f32 := m ((c.tc : Thread nD τ).loc main_arg0)
/-- The second argument. -/
abbrev W : FVec Ideal S8192x64 .f32 := m ((c.tc : Thread nD τ).loc main_arg1)

/-- A row number is its point's row at its place in the block. -/
theorem row_pt (i : Fin 8192) : row (pt i) (rw' i) = i := Fin.ext (by
  show i.val / 256 * 256 + i.val % 256 = i.val
  omega)

/-- A `[1, 1]` array made a scalar is its one entry. -/
theorem scalar_at (v : FVec Ideal S1x1 .f32) (i : S_.Idx) : shapeCast S_ v shapeCasts_S1x1_S_ i = v (ix2 0 0) := by
  refine congrArg v (funext fun a => Fin.ext ?_)
  generalize Shape.reshapeEquiv shapeCasts_S1x1_S_ i = k
  match a with
  | ⟨0, _⟩ => have h : (k 0).val < 1 := (k 0).isLt; show (k 0).val = 0; omega
  | ⟨1, _⟩ => have h : (k 1).val < 1 := (k 1).isLt; show (k 1).val = 0; omega

variable (hlt : ∀ i : Fin 8192, (idx (ix1 i)).toNat < 8192) (hn : ∀ t r, nblk m c t (ix2 r 0) = idx (ix1 (row t r)))

include hlt hn

/-- A row of a point's one-hot block is the row of the encodings. -/
theorem hot_at (t : Fin cfg0.N) (r : Fin 256) (k : Fin 8192) :
    (k0_pay6 (nblk m c t) : FVec Ideal S256x8192 .f32) (ix2 r k) = (enc idx : FVec Ideal S8192x8192 .f32) (ix2 (row t r) k) := by
  rw [pay6_at, hn]
  exact (enc_01 idx hlt (row t r) k).symm

/-- The encodings. -/
theorem encK_eq : encK m c = (enc idx : FVec Ideal S8192x8192 .f32) := by
  funext i
  obtain ⟨a, b, rfl⟩ : ∃ (a : Fin 8192) (b : Fin 8192), i = ix2 a b := ⟨i 0, i 1, ValueIdx.eq_ix2 i⟩
  have h := hot_at m c idx hlt hn (pt a) (rw' a) b
  rw [row_pt] at h
  exact h

/-- A row of a point's quantized block is the row of the quantized array. -/
theorem q_at (t : Fin cfg0.N) (r : Fin 256) (d : Fin 64) :
    (k0_pay7 (wblk m c t) (nblk m c t) : FVec Ideal S256x64 .f32) (ix2 r d)
      = quant (enc idx) (W m c) (ix2 (row t r) d) := by
  rw [pay7_at, quant_at]
  refine Finset.sum_congr rfl fun k _ => ?_
  rw [hot_at m c idx hlt hn, wblk_eq]

/-- The straight-through output. -/
theorem thrK_eq : thrK m c = through (quant (enc idx) (W m c)) (X m c) := by
  funext i
  obtain ⟨a, b, rfl⟩ : ∃ (a : Fin 8192) (b : Fin 64), i = ix2 a b := ⟨i 0, i 1, ValueIdx.eq_ix2 i⟩
  have hq := q_at m c idx hlt hn (pt a) (rw' a) b
  have hx := xblk_at m c (pt a) (rw' a) b
  rw [row_pt] at hq hx
  rw [through_at]
  exact congrArg₂ (fun (a b : EReal) => a + (b - a)) hx hq

/-- The counts after the last point are the encodings' column sums. -/
theorem cnt_eq (j : Fin 8192) : cnt m c 31 lt31 (ix2 0 j) = ∑ i : Fin 8192, (enc idx : FVec Ideal S8192x8192 .f32) (ix2 i j) := by
  refine Sums.running_rows cfg0.N lt31 (fun i => (enc idx : FVec Ideal S8192x8192 .f32) (ix2 i j)) row (fun _ _ => rfl)
    (fun n h => cnt m c n h (ix2 0 j)) (fun h => ?_) fun n h => ?_
  · refine (pay9_at _ _ j).trans ?_
    refine (congrArg₂ (fun (a b : EReal) => a + b) Ideal.ofBits_zero_f32
      (Finset.sum_congr rfl fun r _ => hot_at m c idx hlt hn ⟨0, h⟩ r j)).trans ?_
    exact zero_add _
  · refine (pay9_at _ _ j).trans ?_
    exact congrArg (fun b : EReal => (cnt m c n (Nat.lt_of_succ_lt h) (ix2 0 j) : EReal) + b)
      (Finset.sum_congr rfl fun r _ => hot_at m c idx hlt hn ⟨n + 1, h⟩ r j)

/-- The loss sum after the last point is the whole sum of squared differences. -/
theorem sse_eq : sse m c 31 lt31 (ix2 0 0) = ∑ i : Fin 8192, ∑ d : Fin 64,
    ((quant (enc idx) (W m c) (ix2 i d) - X m c (ix2 i d)) * (quant (enc idx) (W m c) (ix2 i d) - X m c (ix2 i d)) : EReal) := by
  have e : ∀ (t : Fin cfg0.N), (∑ r : Fin 256, ∑ d : Fin 64,
          ((k0_pay7 (wblk m c t) (nblk m c t) : FVec Ideal S256x64 .f32) (ix2 r d) - xblk m c t (ix2 r d))
            * ((k0_pay7 (wblk m c t) (nblk m c t) : FVec Ideal S256x64 .f32) (ix2 r d) - xblk m c t (ix2 r d)) : EReal)
      = ∑ r : Fin 256, ∑ d : Fin 64, ((quant (enc idx) (W m c) (ix2 (row t r) d) - X m c (ix2 (row t r) d))
          * (quant (enc idx) (W m c) (ix2 (row t r) d) - X m c (ix2 (row t r) d)) : EReal) := fun t =>
    Finset.sum_congr rfl fun r _ => Finset.sum_congr rfl fun d _ => by
      rw [q_at m c idx hlt hn, xblk_at]
  refine Sums.running_rows cfg0.N lt31 (fun i => ∑ d : Fin 64, ((quant (enc idx) (W m c) (ix2 i d) - X m c (ix2 i d))
      * (quant (enc idx) (W m c) (ix2 i d) - X m c (ix2 i d)) : EReal)) row (fun _ _ => rfl)
    (fun n h => sse m c n h (ix2 0 0)) (fun h => ?_) fun n h => ?_
  · refine (pay10_at _ _ _ _).trans ?_
    refine (congrArg₂ (fun (a b : EReal) => a + b) Ideal.ofBits_zero_f32 (e ⟨0, h⟩)).trans ?_
    exact zero_add _
  · refine (pay10_at _ _ _ _).trans ?_
    exact congrArg (fun b : EReal => (sse m c n (Nat.lt_of_succ_lt h) (ix2 0 0) : EReal) + b) (e ⟨n + 1, h⟩)

omit hlt hn in
/-- Scaling by a constant before or after dividing by 524288 is the same. -/
theorem scale_div (a s : EReal) : Ideal.div (a * s) (Ideal.ofBits .f32 0x49000000#32)
    = a * Ideal.div s (Ideal.ofBits .f32 0x49000000#32) := by
  have h : Ideal.ofBits .f32 0x49000000#32 = ((524288 : ℝ) : EReal) := by
    simp [Ideal.ofBits, Ideal.ieee, -EReal.coe_mul]; norm_num
  rw [h, Ideal.div_coe (by norm_num), Ideal.div_coe (by norm_num), mul_assoc]

/-- The loss. -/
theorem lossK_eq : shapeCast S_ (k0_pay1 (sse m c 31 lt31) : FVec Ideal S1x1 .f32) shapeCasts_S1x1_S_
    = loss (quant (enc idx) (W m c)) (X m c) := by
  funext i
  rw [scalar_at, pay1_at, scale_div, sse_eq m c idx hlt hn, loss_at]

/-- The perplexity. -/
theorem perpK_eq : shapeCast S_ (k0_pay2 (cnt m c 31 lt31) : FVec Ideal S1x1 .f32) shapeCasts_S1x1_S_
    = perp (probs (enc idx : FVec Ideal S8192x8192 .f32)) := by
  funext i
  rw [scalar_at, pay2_at, perp_at]
  have e : ∀ j : Fin 8192, Ideal.div (cnt m c 31 lt31 (ix2 0 j)) (Ideal.ofBits .f32 0x46000000#32)
      = probs (enc idx : FVec Ideal S8192x8192 .f32) (ix1 j) := fun j => by rw [cnt_eq m c idx hlt hn, probs_at]
  simp only [e, zero_sub]

end Cert.KernelIdeal.Value

end
-- ==== Proof.KernelIdx.lean ====
/- The index array the KERNEL program's lines before the region compute, and the blocks of it that a point reads: it is
   the argmin of the same distances as the reference's. -/
module

public import proofs.«01_k».proof.Proof.KernelRun
public import proofs.«01_k».proof.Proof.RefRun
public import Idealize.ShloMosaic.Lib.ValueIdx

@[expose] public section

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen

variable {F : FTy → Type} [FloatOps F]
variable (m : (ℓ : Loc nD τ sig) → Buf (Elt F) ℓ)

/-- The squared distances `|x_i|² + |w_j|² − 2 x_i·w_j`. -/
def dist (x W : FVec F S8192x64 .f32) : FVec F S8192x8192 .f32 :=
  subf
    (addf
      (broadcastInDim S8192x8192 ![0, 1] bcast_S8192x1_S8192x8192_0_1 (broadcastInDim S8192x1 ![0] bcast_S8192_S8192x1_0
        (Host.reduceAdd (mulf x x) (constant S_ .f32 0x00000000#32) reducesTo_S8192x64_S8192_d1 h_S_)))
      (broadcastInDim S8192x8192 ![0, 1] bcast_S1x8192_S8192x8192_0_1 (broadcastInDim S1x8192 ![1] bcast_S8192_S1x8192_1
        (Host.reduceAdd (mulf W W) (constant S_ .f32 0x00000000#32) reducesTo_S8192x64_S8192_d1 h_S_))))
    (mulf (broadcastInDim S8192x8192 ![] bcast_S_S8192x8192 (constant S_ .f32 0x40000000#32))
      (Host.dotGeneral dot_S8192x64_S64x8192_S8192x8192_1_0_0_1_n_n none x
        (transpose S64x8192 [1, 0] W transposes_S8192x64_S64x8192_1_0)))

/-- The index of the least entry of each row. -/
def amin (d : FVec F S8192x8192 .f32) : IVec S8192 32 := fun j =>
  (Host.argReduce reducer_argmin_f32_i32 d (iotaInDim S8192x8192 32 1) (constant S_ .f32 0x7F800000#32)
    (constantI S_ 32 0#32) reducesTo_S8192x8192_S8192_d1 h_S_ j).2

/-- Both programs compute the same distances … -/
theorem dist_eq (x W : FVec F S8192x64 .f32) : dist x W = Cert.ReferenceIdeal.Value.dist x W := rfl

/-- … comparing entries by the same rule … -/
theorem reducer_eq : @reducer_argmin_f32_i32 F _ = @Cert.ReferenceIdeal.reducer_argmin_f32_i32 F _ := rfl

/-- … so the same index in each row. -/
theorem amin_eq (d : FVec F S8192x8192 .f32) : amin d = Cert.ReferenceIdeal.Value.amin d := by
  unfold amin Cert.ReferenceIdeal.Value.amin
  rw [reducer_eq]

/-- The lines before the region leave the argmin of the distances … -/
theorem pre_14 (V : Valuation τ sig (Elt F)) :
    StableHlo.after hostOps0 V (Proc.devRef .tc main_call0_v14)
      = amin (dist (F := F) (V (Proc.devRef .tc main_arg0)) (V (Proc.devRef .tc main_arg1))) := by
  after_results_simp
  rfl

/-- (The last of them …) -/
abbrev lastOp : List (HloOp τ sig (Elt F)) :=
  [StableHlo.TRef.unary main_call0_call0.v1_1 (.of main_call0_v15 : StableHlo.TRef sig ⟨S8192x1, .i32⟩)
    (broadcastInDim S8192x1 ![0] bcast_S8192_S8192x1_0)]

theorem hostOps0_split : (hostOps0 : List (HloOp τ sig (Elt F))) = hostOps0.take 22 ++ lastOp :=
  (List.take_append_drop 22 hostOps0).symm

/-- (… makes a column of it …) -/
theorem last_15 (V : Valuation τ sig (Elt F)) : StableHlo.after lastOp V (Proc.devRef .tc main_call0_v15)
    = (broadcastInDim S8192x1 ![0] bcast_S8192_S8192x1_0 (V (Proc.devRef .tc main_call0_v14)) : IVec S8192x1 32) := by
  after_results_simp
  rfl

/-- (… and keeps it.) -/
theorem last_14 (V : Valuation τ sig (Elt F)) : StableHlo.after lastOp V (Proc.devRef .tc main_call0_v14)
    = V (Proc.devRef .tc main_call0_v14) := by
  after_results_simp

/-- … as a column. -/
theorem pre_15 (V : Valuation τ sig (Elt F)) :
    StableHlo.after hostOps0 V (Proc.devRef .tc main_call0_v15)
      = (broadcastInDim S8192x1 ![0] bcast_S8192_S8192x1_0
          (amin (dist (F := F) (V (Proc.devRef .tc main_arg0)) (V (Proc.devRef .tc main_arg1)))) : IVec S8192x1 32) := by
  rw [← pre_14 V, hostOps0_split, StableHlo.after_append, last_15, last_14]

/-- So the column the region finds. -/
theorem V_idx (c : Dev nD) : V m c main_call0_v15
    = (broadcastInDim S8192x1 ![0] bcast_S8192_S8192x1_0
        (amin (dist (F := F) (m ((c.tc : Thread nD τ).loc main_arg0)) (m ((c.tc : Thread nD τ).loc main_arg1))))
        : IVec S8192x1 32) := by
  unfold V V0
  rw [List.flatten_cons, List.flatten_nil, List.append_nil, pre_15]

/-- A column made of a vector holds its entries. -/
theorem column_at (v : IVec S8192 32) (i : S8192x1.Idx) (k : Fin 8192) (h : (i 0).val = k.val) :
    broadcastInDim S8192x1 ![0] bcast_S8192_S8192x1_0 v i = v (ix1 k) := by
  refine congrArg v ?_
  funext a
  apply Fin.ext
  match a with
  | ⟨0, _⟩ => exact h

/-- Point `t`'s block of a column is 256 consecutive entries of it. -/
theorem block_2 (c : Dev nD) (t : Fin cfg0.N) (r : Fin 256) (A : (b : Ref sig .tc) → Buf (Elt F) ((c : Thread nD τ).loc b)) :
    ((cfg0.win 2).blk t).view.read (Elt F) (A (Pipeline.arrRef spec0 2)) (ix2 r 0)
      = (A main_call0_v15 : IVec S8192x1 32) (ix2 (row t r) 0) := by
  rw [View.read_apply]
  refine congrArg (A main_call0_v15) ?_
  funext a
  apply Fin.ext
  match a with
  | ⟨0, _⟩ => show win0_2.index t 0 * 256 + 1 * r.val = t.val * 256 + r.val; rw [(index_2 t).1]; omega
  | ⟨1, _⟩ => show win0_2.index t 1 * 1 + 1 * 0 = 0; rw [(index_2 t).2]

/-- The index block is 256 consecutive entries of that argmin. -/
theorem nblk_at (c : Dev nD) (t : Fin cfg0.N) (r : Fin 256) :
    nblk m c t (ix2 r 0) = Cert.ReferenceIdeal.Value.amin (Cert.ReferenceIdeal.Value.dist (F := F)
          (m ((c.tc : Thread nD τ).loc main_arg0)) (m ((c.tc : Thread nD τ).loc main_arg1))) (ix1 (row t r)) := by
  rw [← dist_eq, ← amin_eq]
  refine (block_2 c t r (V m c)).trans ?_
  rw [V_idx]
  exact column_at _ _ (row t r) rfl

end Cert.KernelIdeal.Value

end
-- ==== Proof.Match.lean ====
/- The kernel's index blocks hold the reference's argmin, so its four results are the reference's terms in the arguments. -/
module

public import proofs.«01_k».proof.Proof.Results
public import proofs.«01_k».proof.Proof.KernelIdx

@[expose] public section

set_option maxRecDepth 16384

noncomputable section

open Idealize.ShloMosaic hiding ix1 ix2 ix3
open Idealize.ShloMosaic.TcCoe
open Idealize.ShloMosaic.ValueIdx
open Cert.ReferenceIdeal.Value (enc encOf quant loss through probs perp amin_lt)

namespace Cert.KernelIdeal.Value

open Cert.KernelIdeal Cert.KernelIdeal.Gen

variable (m : (ℓ : Loc nD τ sig) → Buf (Elt Ideal) ℓ) (c : Dev nD)

/-- The reference's indices of the least distances, at the memory's arguments. -/
def idxOf : IVec S8192 32 := Cert.ReferenceIdeal.Value.amin (Cert.ReferenceIdeal.Value.dist (X m c) (W m c))

/-- Each is a column. -/
theorem idxOf_lt (i : Fin 8192) : (idxOf m c (ix1 i)).toNat < 8192 := by
  rw [idxOf.eq_1]
  exact amin_lt _ i

/-- The index blocks hold them. -/
theorem nblk_idxOf (t : Fin cfg0.N) (r : Fin 256) : nblk m c t (ix2 r 0) = idxOf m c (ix1 (row t r)) := by
  rw [idxOf.eq_1]
  exact nblk_at m c t r

/-- The encodings made from them are the reference's. -/
theorem enc_idxOf : (enc (idxOf m c) : FVec Ideal S8192x8192 .f32) = encOf (X m c) (W m c) := by
  rw [idxOf.eq_1, Cert.ReferenceIdeal.Value.encOf_eq]

/-- The encodings. -/
theorem encK_ref : encK m c = encOf (X m c) (W m c) := by
  rw [← enc_idxOf]
  exact encK_eq m c (idxOf m c) (idxOf_lt m c) (nblk_idxOf m c)

/-- The straight-through output. -/
theorem thrK_ref : thrK m c = through (quant (encOf (X m c) (W m c)) (W m c)) (X m c) := by
  rw [← enc_idxOf]
  exact thrK_eq m c (idxOf m c) (idxOf_lt m c) (nblk_idxOf m c)

/-- The loss. -/
theorem lossK_ref : shapeCast S_ (k0_pay1 (sse m c 31 lt31) : FVec Ideal S1x1 .f32) shapeCasts_S1x1_S_
    = loss (quant (encOf (X m c) (W m c)) (W m c)) (X m c) := by
  rw [← enc_idxOf]
  exact lossK_eq m c (idxOf m c) (idxOf_lt m c) (nblk_idxOf m c)

/-- The perplexity. -/
theorem perpK_ref : shapeCast S_ (k0_pay2 (cnt m c 31 lt31) : FVec Ideal S1x1 .f32) shapeCasts_S1x1_S_
    = perp (probs (encOf (X m c) (W m c))) := by
  rw [← enc_idxOf]
  exact perpK_eq m c (idxOf m c) (idxOf_lt m c) (nblk_idxOf m c)

end Cert.KernelIdeal.Value

end
-- ==== Proof.lean ====
/- The certificate: the three programs run with their arguments unchanged and every counter back at zero, and the kernel
   and the reference compute the same four results over the extended reals. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Match
public import Idealize.ShloMosaic.Adequacy
public import Idealize.ShloMosaic.Init

@[expose] public section

noncomputable section

namespace Cert.Proof

open Idealize.ShloMosaic Idealize.SL.Sem

/-- The kernel and the reference, from memories that agree on the arguments, end with equal results. -/
theorem algebraic : Cert.algebraic_KernelIdeal_ReferenceIdeal
    (hKernelIdeal := Cert.KernelIdeal.Gen.facts) (hReferenceIdeal := Cert.ReferenceIdeal.Gen.facts) := by
  intro m g m' g' _ hm
  refine ⟨fun c => Cert.ReferenceIdeal.Value.loss (Cert.ReferenceIdeal.Value.quant
        (Cert.ReferenceIdeal.Value.encOf (Cert.KernelIdeal.Value.X m c) (Cert.KernelIdeal.Value.W m c))
        (Cert.KernelIdeal.Value.W m c)) (Cert.KernelIdeal.Value.X m c),
    fun c => Cert.ReferenceIdeal.Value.through (Cert.ReferenceIdeal.Value.quant
        (Cert.ReferenceIdeal.Value.encOf (Cert.KernelIdeal.Value.X m c) (Cert.KernelIdeal.Value.W m c))
        (Cert.KernelIdeal.Value.W m c)) (Cert.KernelIdeal.Value.X m c),
    fun c => Cert.ReferenceIdeal.Value.perp (Cert.ReferenceIdeal.Value.probs
        (Cert.ReferenceIdeal.Value.encOf (Cert.KernelIdeal.Value.X m c) (Cert.KernelIdeal.Value.W m c))),
    fun c => Cert.ReferenceIdeal.Value.encOf (Cert.KernelIdeal.Value.X m c) (Cert.KernelIdeal.Value.W m c), ?_, ?_⟩
  · refine (θ_run _ _ _).mono (fun r h c => ?_) (Cert.KernelIdeal.Value.run (F := Ideal) m g)
    obtain ⟨h0, h1, h2, h3, h4, h5⟩ := h c
    exact ⟨h0.trans (Cert.KernelIdeal.Value.lossK_ref m c), h1.trans (Cert.KernelIdeal.Value.thrK_ref m c),
      h2.trans (Cert.KernelIdeal.Value.perpK_ref m c), h3.trans (Cert.KernelIdeal.Value.encK_ref m c), h4, h5⟩
  · refine (θ_run _ _ _).mono (fun r h c => ?_) (Cert.ReferenceIdeal.Value.run (F := Ideal) m' g')
    obtain ⟨h0, h1, h2, h3, h4, h5⟩ := h c
    obtain ⟨e0, e1⟩ := hm c
    rw [e0, e1] at h0 h1
    rw [e0, e1] at h2 h3
    exact ⟨h0, h1, h2, h3, h4, h5⟩

/-- Everything claimed. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Value.frame m ρ,
    trivial,
    algebraic⟩

end Cert.Proof

end
